-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_v9) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x6656 : Shape := ⟨3, ![3, 4096, 6656]⟩
abbrev S6656x2x17920 : Shape := ⟨3, ![6656, 2, 17920]⟩
abbrev S2x17920 : Shape := ⟨2, ![2, 17920]⟩
abbrev S12288x6656 : Shape := ⟨2, ![12288, 6656]⟩
abbrev S12288x128 : Shape := ⟨2, ![12288, 128]⟩
abbrev S256x6656 : Shape := ⟨2, ![256, 6656]⟩
abbrev S256x128 : Shape := ⟨2, ![256, 128]⟩
abbrev S256 : Shape := ⟨1, ![256]⟩
abbrev S256x1 : Shape := ⟨2, ![256, 1]⟩
abbrev S2x6656x17920 : Shape := ⟨3, ![2, 6656, 17920]⟩
abbrev S12288x17920 : Shape := ⟨2, ![12288, 17920]⟩
abbrev S8x128 : Shape := ⟨2, ![8, 128]⟩
abbrev S1024x6656 : Shape := ⟨2, ![1024, 6656]⟩
abbrev S1024x128 : Shape := ⟨2, ![1024, 128]⟩
abbrev S2x6656x512 : Shape := ⟨3, ![2, 6656, 512]⟩
abbrev S2x512 : Shape := ⟨2, ![2, 512]⟩
abbrev S1024x512 : Shape := ⟨2, ![1024, 512]⟩
abbrev S1024x1 : Shape := ⟨2, ![1024, 1]⟩
abbrev S1x6656x512 : Shape := ⟨3, ![1, 6656, 512]⟩
abbrev S6656x512 : Shape := ⟨2, ![6656, 512]⟩
abbrev S1x512 : Shape := ⟨2, ![1, 512]⟩
abbrev S512 : Shape := ⟨1, ![512]⟩
abbrev S1x128 : Shape := ⟨2, ![1, 128]⟩
abbrev S1024x2560 : Shape := ⟨2, ![1024, 2560]⟩
abbrev S1x8x128 : Shape := ⟨3, ![1, 8, 128]⟩
abbrev S1 : Shape := ⟨1, ![1]⟩
abbrev S1x1x1 : Shape := ⟨3, ![1, 1, 1]⟩
abbrev S1x1 : Shape := ⟨2, ![1, 1]⟩
abbrev S3x4096x17920 : Shape := ⟨3, ![3, 4096, 17920]⟩
abbrev S_ : Shape := ⟨0, ![]⟩
abbrev S12288x1 : Shape := ⟨2, ![12288, 1]⟩
abbrev S12288 : Shape := ⟨1, ![12288]⟩
abbrev S3x4096 : Shape := ⟨2, ![3, 4096]⟩

abbrev nBuf : Space → Nat
  | .hbm => 21
  | .vmem => 24
  | .smem => 0
  | _ => 0

abbrev bufTy : (tb : Table) → Fin (tcTables nBuf tb) → BufTy
  | .hbm, ⟨0, _⟩ => ⟨S3x4096x6656, .bf16⟩
  | .hbm, ⟨1, _⟩ => ⟨S6656x2x17920, .fp8e4m3⟩
  | .hbm, ⟨2, _⟩ => ⟨S2x17920, .f32⟩
  | .hbm, ⟨3, _⟩ => ⟨S12288x6656, .bf16⟩
  | .hbm, ⟨4, _⟩ => ⟨S12288x6656, .fp8e4m3⟩
  | .hbm, ⟨5, _⟩ => ⟨S12288x128, .f32⟩
  | .hbm, ⟨6, _⟩ => ⟨S2x6656x17920, .fp8e4m3⟩
  | .hbm, ⟨7, _⟩ => ⟨S12288x17920, .f32⟩
  | .hbm, ⟨8, _⟩ => ⟨S8x128, .f32⟩
  | .hbm, ⟨9, _⟩ => ⟨S12288x17920, .fp8e4m3⟩
  | .hbm, ⟨10, _⟩ => ⟨S8x128, .f32⟩
  | .hbm, ⟨11, _⟩ => ⟨S8x128, .f32⟩
  | .hbm, ⟨12, _⟩ => ⟨S3x4096x17920, .fp8e4m3⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S3x4096x6656, .fp8e4m3⟩
  | .hbm, ⟨18, _⟩ => ⟨S12288x1, .f32⟩
  | .hbm, ⟨19, _⟩ => ⟨S12288, .f32⟩
  | .hbm, ⟨20, _⟩ => ⟨S3x4096, .f32⟩
  | .local _ .vmem, ⟨0, _⟩ => ⟨S256x6656, .bf16⟩
  | .local _ .vmem, ⟨1, _⟩ => ⟨S256x6656, .bf16⟩
  | .local _ .vmem, ⟨2, _⟩ => ⟨S256x6656, .fp8e4m3⟩
  | .local _ .vmem, ⟨3, _⟩ => ⟨S256x6656, .fp8e4m3⟩
  | .local _ .vmem, ⟨4, _⟩ => ⟨S256x128, .f32⟩
  | .local _ .vmem, ⟨5, _⟩ => ⟨S256x128, .f32⟩
  | .local _ .vmem, ⟨6, _⟩ => ⟨S1024x6656, .fp8e4m3⟩
  | .local _ .vmem, ⟨7, _⟩ => ⟨S1024x6656, .fp8e4m3⟩
  | .local _ .vmem, ⟨8, _⟩ => ⟨S1024x128, .f32⟩
  | .local _ .vmem, ⟨9, _⟩ => ⟨S1024x128, .f32⟩
  | .local _ .vmem, ⟨10, _⟩ => ⟨S2x6656x512, .fp8e4m3⟩
  | .local _ .vmem, ⟨11, _⟩ => ⟨S2x6656x512, .fp8e4m3⟩
  | .local _ .vmem, ⟨12, _⟩ => ⟨S2x512, .f32⟩
  | .local _ .vmem, ⟨13, _⟩ => ⟨S2x512, .f32⟩
  | .local _ .vmem, ⟨14, _⟩ => ⟨S1024x512, .f32⟩
  | .local _ .vmem, ⟨15, _⟩ => ⟨S1024x512, .f32⟩
  | .local _ .vmem, ⟨16, _⟩ => ⟨S8x128, .f32⟩
  | .local _ .vmem, ⟨17, _⟩ => ⟨S1024x2560, .f32⟩
  | .local _ .vmem, ⟨18, _⟩ => ⟨S1024x2560, .f32⟩
  | .local _ .vmem, ⟨19, _⟩ => ⟨S8x128, .f32⟩
  | .local _ .vmem, ⟨20, _⟩ => ⟨S1024x2560, .fp8e4m3⟩
  | .local _ .vmem, ⟨21, _⟩ => ⟨S1024x2560, .fp8e4m3⟩
  | .local _ .vmem, ⟨22, _⟩ => ⟨S8x128, .f32⟩
  | .local _ .vmem, ⟨23, _⟩ => ⟨S8x128, .f32⟩
  | _, _ => ⟨S3x4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem4_0 : DmaSem sig := 23

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6656 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6656 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![35, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x6656 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x6656x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev grid2 : Pipeline.Grid := ⟨2, ![12, 7], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x2560 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x2560 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]
-- ==== ReferenceIdeal.lean ====
abbrev S3x4096x6656 : Shape := ⟨3, ![3, 4096, 6656]⟩
abbrev S6656x2x17920 : Shape := ⟨3, ![6656, 2, 17920]⟩
abbrev S2x17920 : Shape := ⟨2, ![2, 17920]⟩
abbrev S12288x6656 : Shape := ⟨2, ![12288, 6656]⟩
abbrev S6656x1x17920 : Shape := ⟨3, ![6656, 1, 17920]⟩
abbrev S6656x17920 : Shape := ⟨2, ![6656, 17920]⟩
abbrev S12288x17920 : Shape := ⟨2, ![12288, 17920]⟩
abbrev S1x1 : Shape := ⟨2, ![1, 1]⟩
abbrev S12288x1 : Shape := ⟨2, ![12288, 1]⟩
abbrev S12288 : Shape := ⟨1, ![12288]⟩
abbrev S1x17920 : Shape := ⟨2, ![1, 17920]⟩
abbrev S1x12288x17920 : Shape := ⟨3, ![1, 12288, 17920]⟩
abbrev S1 : Shape := ⟨1, ![1]⟩
abbrev S1x1x1 : Shape := ⟨3, ![1, 1, 1]⟩
abbrev S3x4096x17920 : Shape := ⟨3, ![3, 4096, 17920]⟩
abbrev S_ : Shape := ⟨0, ![]⟩
abbrev S3x4096 : Shape := ⟨2, ![3, 4096]⟩

abbrev nBuf : Space → Nat
  | .hbm => 18
  | .vmem => 9
  | .smem => 0
  | _ => 0

abbrev bufTy : (tb : Table) → Fin (tcTables nBuf tb) → BufTy
  | .hbm, ⟨0, _⟩ => ⟨S3x4096x6656, .bf16⟩
  | .hbm, ⟨1, _⟩ => ⟨S6656x2x17920, .fp8e4m3⟩
  | .hbm, ⟨2, _⟩ => ⟨S2x17920, .f32⟩
  | .hbm, ⟨3, _⟩ => ⟨S12288x6656, .bf16⟩
  | .hbm, ⟨4, _⟩ => ⟨S6656x1x17920, .fp8e4m3⟩
  | .hbm, ⟨5, _⟩ => ⟨S6656x17920, .fp8e4m3⟩
  | .hbm, ⟨6, _⟩ => ⟨S6656x1x17920, .fp8e4m3⟩
  | .hbm, ⟨7, _⟩ => ⟨S6656x17920, .fp8e4m3⟩
  | .hbm, ⟨8, _⟩ => ⟨S12288x17920, .fp8e4m3⟩
  | .hbm, ⟨9, _⟩ => ⟨S1x1, .f32⟩
  | .hbm, ⟨10, _⟩ => ⟨S1x1, .f32⟩
  | .hbm, ⟨11, _⟩ => ⟨S12288x6656, .fp8e4m3⟩
  | .hbm, ⟨12, _⟩ => ⟨S12288x1, .f32⟩
  | .hbm, ⟨13, _⟩ => ⟨S3x4096x17920, .fp8e4m3⟩
  | .hbm, ⟨14, _⟩ => ⟨S_, .f32⟩
  | .hbm, ⟨15, _⟩ => ⟨S_, .f32⟩
  | .hbm, ⟨16, _⟩ => ⟨S3x4096x6656, .fp8e4m3⟩
  | .hbm, ⟨17, _⟩ => ⟨S3x4096, .f32⟩
  | .local _ .vmem, ⟨0, _⟩ => ⟨S12288x6656, .bf16⟩
  | .local _ .vmem, ⟨1, _⟩ => ⟨S6656x17920, .fp8e4m3⟩
  | .local _ .vmem, ⟨2, _⟩ => ⟨S6656x17920, .fp8e4m3⟩
  | .local _ .vmem, ⟨3, _⟩ => ⟨S2x17920, .f32⟩
  | .local _ .vmem, ⟨4, _⟩ => ⟨S12288x17920, .fp8e4m3⟩
  | .local _ .vmem, ⟨5, _⟩ => ⟨S1x1, .f32⟩
  | .local _ .vmem, ⟨6, _⟩ => ⟨S1x1, .f32⟩
  | .local _ .vmem, ⟨7, _⟩ => ⟨S12288x6656, .fp8e4m3⟩
  | .local _ .vmem, ⟨8, _⟩ => ⟨S12288x1, .f32⟩
  | _, _ => ⟨S3x4096x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v5_4 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S12288x6656 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6656x17920 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6656x17920 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x17920 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12288x17920 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x6656 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12288x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Scale.lean ====
/-
  The power-of-two scale, as a fact about one extended real. The kernel finds the exponent field of a maximum by comparing it
  with one power of two after another and assembles the scale word from it; the reference writes the same scale as
  `2 ^ (⌊log₂ t⌋ + 1)`. The two agree at every extended real (`kScale_eq`, `kInv_eq`).
-/
module

public import Idealize.ShloMosaic.PureOps.Ideal
public import Mathlib.Analysis.SpecialFunctions.Log.Basic
public import Mathlib.Tactic.Linarith
public import Mathlib.Tactic.Positivity
public import Mathlib.Tactic.Ring

@[expose] public section

set_option maxRecDepth 16384

noncomputable section

namespace Cert.Scale

open Idealize.ShloMosaic

/-! ### The reference's scale -/

/-- The reference's exponent: `⌊log t / log 2⌋ + 1` from 2⁻¹²⁶ up to 2¹²⁰, and 0 elsewhere. -/
def refE (t : EReal) : EReal :=
  Scalar.select
    (IntOp.andi (Ideal.cmp .oge t (Ideal.ofBits .f32 0x00800000#32)) (Ideal.cmp .olt t (Ideal.ofBits .f32 0x7B800000#32)))
    (Ideal.liftRound Int.floor (Ideal.div (Ideal.log t) (Ideal.log (Ideal.ofBits .f32 0x40000000#32)))
      + Ideal.ofBits .f32 0x3F800000#32)
    (Ideal.ofBits .f32 0x00000000#32)

/-- The reference's scale. -/
def refScale (t : EReal) : EReal := Ideal.exp2 (refE t)

/-- The reference's multiplier, one over the scale. -/
def refInv (t : EReal) : EReal := Ideal.exp2 (Ideal.ofBits .f32 0x00000000#32 - refE t)

/-! ### The kernel's scale -/

/-- One step of the search: take bit `b` into the word when the float of the larger word is still at most `t`. -/
def step (t : EReal) (b w : BitVec 32) : BitVec 32 :=
  Scalar.select (Ideal.cmp .ole (Ideal.ofBits .f32 (IntOp.ori w b)) t) (IntOp.ori w b) w

/-- The eight steps, from the top bit of the exponent field down. -/
def search (t : EReal) : BitVec 32 :=
  step t 8388608#32 (step t 16777216#32 (step t 33554432#32 (step t 67108864#32 (step t 134217728#32
    (step t 268435456#32 (step t 536870912#32 (step t 1073741824#32 0#32)))))))

/-- The exponent word the kernel reads, infinity's from 2¹²⁰ on. -/
def word (t : EReal) : BitVec 32 :=
  Scalar.select (Ideal.cmp .oge t (Ideal.ofBits .f32 0x7B800000#32)) 2139095040#32 (search t)

/-- The exponent field of a word. -/
def field (w : BitVec 32) : BitVec 32 := IntOp.andi (IntOp.shrsi .vector w 23#32) 255#32

/-- The kernel's exponent, from the exponent word: 0 at an all-zeros or all-ones field. -/
def expo (w : BitVec 32) : BitVec 32 :=
  Scalar.select (IntOp.ori (IntOp.cmpi .eq (field w) 0#32) (IntOp.cmpi .eq (field w) 255#32)) 0#32
    (IntOp.subi (field w) 126#32)

/-- The kernel's scale: the float whose exponent field is 127 plus the exponent. -/
def kScale (t : EReal) : EReal := Ideal.ofBits .f32 (IntOp.shli .vector (IntOp.addi 127#32 (expo (word t))) 23#32)

/-- The kernel's multiplier: the float whose exponent field is 127 minus the exponent. -/
def kInv (t : EReal) : EReal := Ideal.ofBits .f32 (IntOp.shli .vector (IntOp.subi 127#32 (expo (word t))) 23#32)

/-! ### Words with a bare exponent field -/

/-- The word with exponent field `c` and nothing else. -/
def emb (c : BitVec 8) : BitVec 32 := c.zeroExtend 32 <<< 23

/-- Its sign bit is clear. -/
theorem emb_sign : ∀ c : BitVec 8, (emb c).extractLsb' 31 1 = 0#1 := by decide +kernel
/-- Its exponent field is the given one. -/
theorem emb_exp : ∀ c : BitVec 8, (emb c).extractLsb' 23 8 = c := by decide +kernel
/-- Its mantissa is clear. -/
theorem emb_frac : ∀ c : BitVec 8, (emb c).extractLsb' 0 23 = 0#23 := by decide +kernel

/-- The float of a bare exponent field that is neither all zeros nor all ones is a power of two. -/
theorem ofBits_emb (c : BitVec 8) (h0 : c ≠ 0#8) (h1 : c ≠ 255#8) :
    Ideal.ofBits .f32 (emb c) = (((2 : ℝ) ^ ((c.toNat : ℤ) - 127) : ℝ) : EReal) := by
  have h0' : c.toNat ≠ 0 := fun h => h0 (BitVec.eq_of_toNat_eq h)
  have h1' : c.toNat ≠ 255 := fun h => h1 (BitVec.eq_of_toNat_eq h)
  show Ideal.ieee 8 23 (emb c) = _
  unfold Ideal.ieee
  simp only [Nat.reduceAdd]
  rw [emb_sign, emb_exp, emb_frac]
  simp only [BitVec.toNat_ofNat]
  rw [if_neg (by simpa using h1'), if_neg h0']
  congr 1
  have : ((c.toNat : ℤ) - 127) = ((c.toNat : ℤ) - 127 - 23) + 23 := by ring
  rw [this, zpow_add₀ (by norm_num)]
  norm_num
  ring

/-- The float of the all-ones exponent field is infinity. -/
theorem ofBits_emb_top : Ideal.ofBits .f32 (emb 255#8) = ⊤ := by
  show Ideal.ieee 8 23 (emb 255#8) = _
  unfold Ideal.ieee
  simp only [Nat.reduceAdd]
  rw [emb_sign, emb_exp, emb_frac]
  simp

/-- The word of 2⁻¹²⁶ is a bare field. -/
theorem c_min : (0x00800000#32 : BitVec 32) = emb 1#8 := by decide
/-- The word of 2¹²⁰ is a bare field. -/
theorem c_max : (0x7B800000#32 : BitVec 32) = emb 247#8 := by decide
/-- The word of 1 is a bare field. -/
theorem c_one : (0x3F800000#32 : BitVec 32) = emb 127#8 := by decide
/-- The word of 2 is a bare field. -/
theorem c_two : (0x40000000#32 : BitVec 32) = emb 128#8 := by decide

/-- The least normal float32 is 2⁻¹²⁶. -/
theorem ofBits_min : Ideal.ofBits .f32 0x00800000#32 = (((2 : ℝ) ^ (-126 : ℤ) : ℝ) : EReal) := by
  rw [c_min, ofBits_emb _ (by decide) (by decide)]; norm_num
/-- The bound from above is 2¹²⁰. -/
theorem ofBits_max : Ideal.ofBits .f32 0x7B800000#32 = (((2 : ℝ) ^ (120 : ℤ) : ℝ) : EReal) := by
  rw [c_max, ofBits_emb _ (by decide) (by decide)]; norm_num
/-- The float of the word of 1. -/
theorem ofBits_one : Ideal.ofBits .f32 0x3F800000#32 = ((1 : ℝ) : EReal) := by
  rw [c_one, ofBits_emb _ (by decide) (by decide)]; norm_num
/-- The float of the word of 2. -/
theorem ofBits_two : Ideal.ofBits .f32 0x40000000#32 = ((2 : ℝ) : EReal) := by
  rw [c_two, ofBits_emb _ (by decide) (by decide)]; norm_num
/-- The float of the zero word. -/
theorem ofBits_zero : Ideal.ofBits .f32 0x00000000#32 = 0 := by
  show Ideal.ieee 8 23 (0#32) = _
  unfold Ideal.ieee
  simp
/-- The float of the word of minus infinity. -/
theorem ofBits_bot : Ideal.ofBits .f32 0xFF800000#32 = ⊥ := by
  show Ideal.ieee 8 23 (0xFF800000#32) = _
  unfold Ideal.ieee
  simp

/-! ### The search, on exponent fields -/

/-- A step of the search on exponent fields, `P` saying which fields are small enough. -/
def step8 (P : BitVec 8 → Bool) (b c : BitVec 8) : BitVec 8 := bif P (c ||| b) then c ||| b else c

/-- The search on exponent fields. -/
def search8 (P : BitVec 8 → Bool) : BitVec 8 :=
  step8 P 1#8 (step8 P 2#8 (step8 P 4#8 (step8 P 8#8 (step8 P 16#8 (step8 P 32#8 (step8 P 64#8 (step8 P 128#8 0#8)))))))

/-- Every field the search tests is nonzero, so its answer depends on `P` at nonzero fields only. -/
theorem step8_congr {P Q : BitVec 8 → Bool} (h : ∀ c, c ≠ 0#8 → P c = Q c) (b : BitVec 8) (hb : b ≠ 0#8) (c : BitVec 8) :
    step8 P b c = step8 Q b c := by
  have : c ||| b ≠ 0#8 := fun e => hb (BitVec.or_eq_zero_iff.1 e).2
  unfold step8; rw [h _ this]

/-- The search depends on its test at nonzero fields only. -/
theorem search8_congr {P Q : BitVec 8 → Bool} (h : ∀ c, c ≠ 0#8 → P c = Q c) : search8 P = search8 Q := by
  unfold search8
  rw [step8_congr h 128#8 (by decide), step8_congr h 64#8 (by decide), step8_congr h 32#8 (by decide),
    step8_congr h 16#8 (by decide), step8_congr h 8#8 (by decide), step8_congr h 4#8 (by decide),
    step8_congr h 2#8 (by decide), step8_congr h 1#8 (by decide)]

/-- The search for the fields up to `k` ends at `k`. -/
theorem search8_le : ∀ k : BitVec 8, search8 (fun c => decide (c.toNat ≤ k.toNat)) = k := by decide +kernel

/-- A field is small enough when its float is at most `t`. -/
def below (t : EReal) (c : BitVec 8) : Bool := decide (Ideal.ofBits .f32 (emb c) ≤ t)

/-- Joining bare fields joins the fields. -/
theorem emb_or (b c : BitVec 8) : IntOp.ori (emb c) (emb b) = emb (c ||| b) := by
  show emb c ||| emb b = _
  unfold emb
  ext i hi
  simp only [BitVec.getElem_or, BitVec.getElem_shiftLeft, BitVec.zeroExtend, BitVec.getElem_setWidth, BitVec.getLsbD_or]
  cases decide (i < 23) <;> simp

/-- A step of the search on words is a step on fields. -/
theorem step_emb (t : EReal) (b c : BitVec 8) : step t (emb b) (emb c) = emb (step8 (below t) b c) := by
  unfold step step8 below
  rw [emb_or]
  unfold Ideal.cmp Scalar.select
  by_cases h : Ideal.ofBits .f32 (emb (c ||| b)) ≤ t <;> simp [h]

/-- The kernel's search is the search over fields. -/
theorem search_eq (t : EReal) : search t = emb (search8 (below t)) := by
  have e (w : BitVec 32) (b : BitVec 8) (h : w = emb b) (c : BitVec 8) : step t w (emb c) = emb (step8 (below t) b c) := by
    rw [h, step_emb]
  unfold search search8
  rw [show (0#32 : BitVec 32) = emb 0#8 from by decide,
    e 1073741824#32 128#8 (by decide), e 536870912#32 64#8 (by decide), e 268435456#32 32#8 (by decide),
    e 134217728#32 16#8 (by decide), e 67108864#32 8#8 (by decide), e 33554432#32 4#8 (by decide),
    e 16777216#32 2#8 (by decide), e 8388608#32 1#8 (by decide)]

/-- Where the fields small enough for `t` are those up to `k`, the search ends at the word of `k`. -/
theorem search_of (t : EReal) (k : BitVec 8) (h : ∀ c, c ≠ 0#8 → below t c = decide (c.toNat ≤ k.toNat)) :
    search t = emb k := by
  rw [search_eq, search8_congr h, search8_le]

/-! ### The scale words, from the exponent field -/

/-- The word of the scale is a bare field, one above the found one. -/
theorem scale_word : ∀ k : BitVec 8, k ≠ 0#8 → k.toNat ≤ 246 →
    IntOp.shli .vector (IntOp.addi 127#32 (expo (emb k))) 23#32 = emb (k + 1#8) := by decide +kernel
/-- The word of the multiplier is a bare field, the mirror of the found one. -/
theorem inv_word : ∀ k : BitVec 8, k ≠ 0#8 → k.toNat ≤ 246 →
    IntOp.shli .vector (IntOp.subi 127#32 (expo (emb k))) 23#32 = emb (253#8 - k) := by decide +kernel
/-- The exponent of a zero field is 0. -/
theorem expo_zero : expo (emb 0#8) = 0#32 := by decide +kernel
/-- The exponent of a field of all ones is 0. -/
theorem expo_top : expo 2139095040#32 = 0#32 := by decide +kernel
/-- At exponent 0 the scale is the word of 1. -/
theorem scale_one : IntOp.shli .vector (IntOp.addi 127#32 0#32) 23#32 = 0x3F800000#32 := by decide +kernel
/-- At exponent 0 the multiplier is the word of 1. -/
theorem inv_one : IntOp.shli .vector (IntOp.subi 127#32 0#32) 23#32 = 0x3F800000#32 := by decide +kernel

/-! ### The two scales agree -/

/-- The float of a bare field is at least 2⁻¹²⁶ once the field is not zero. -/
theorem le_ofBits_emb (c : BitVec 8) (h : c ≠ 0#8) : Ideal.ofBits .f32 0x00800000#32 ≤ Ideal.ofBits .f32 (emb c) := by
  by_cases h1 : c = 255#8
  · rw [h1, ofBits_emb_top]; exact le_top
  · rw [ofBits_min, ofBits_emb c h h1, EReal.coe_le_coe_iff]
    have : c.toNat ≠ 0 := fun e => h (BitVec.eq_of_toNat_eq e)
    exact zpow_le_zpow_right₀ (by norm_num) (by omega)

/-- The comparison `≥` as a bit. -/
theorem cmp_oge (x y : EReal) : Ideal.cmp .oge x y = BitVec.ofBool (decide (y ≤ x)) := rfl
/-- The comparison `<` as a bit. -/
theorem cmp_olt (x y : EReal) : Ideal.cmp .olt x y = BitVec.ofBool (decide (x < y)) := rfl

/-- Selecting by a set bit. -/
theorem select_true {α : Type} (a b : α) : Scalar.select (BitVec.ofBool true) a b = a := rfl
/-- Selecting by a clear bit. -/
theorem select_false {α : Type} (a b : α) : Scalar.select (BitVec.ofBool false) a b = b := rfl
/-- Two set bits joined. -/
theorem andi_true : IntOp.andi (BitVec.ofBool true) (BitVec.ofBool true) = BitVec.ofBool true := rfl

/-- Outside the band both exponents are zero. -/
theorem refE_out (t : EReal) (h : ¬ (Ideal.ofBits .f32 0x00800000#32 ≤ t ∧ t < Ideal.ofBits .f32 0x7B800000#32)) :
    refE t = 0 := by
  unfold refE Scalar.select
  rw [cmp_oge, cmp_olt, if_neg, ofBits_zero]
  intro e
  apply h
  by_cases h1 : Ideal.ofBits .f32 0x00800000#32 ≤ t <;> by_cases h2 : t < Ideal.ofBits .f32 0x7B800000#32 <;>
    simp [h1, h2, IntOp.andi] at e ⊢

/-- Outside the band the kernel's exponent is zero. -/
theorem expo_out (t : EReal) (h : ¬ (Ideal.ofBits .f32 0x00800000#32 ≤ t ∧ t < Ideal.ofBits .f32 0x7B800000#32)) :
    expo (word t) = 0#32 := by
  unfold word
  rw [cmp_oge]
  by_cases h2 : t < Ideal.ofBits .f32 0x7B800000#32
  · have h1 : ¬ Ideal.ofBits .f32 0x00800000#32 ≤ t := fun e => h ⟨e, h2⟩
    rw [decide_eq_false (not_le.2 h2), select_false]
    have : search t = emb 0#8 := search_of t 0#8 fun c hc => by
      have hc' : c.toNat ≠ 0 := fun e => hc (BitVec.eq_of_toNat_eq e)
      unfold below
      rw [decide_eq_false (fun e => h1 ((le_ofBits_emb c hc).trans e)), decide_eq_false (by simpa using hc')]
    rw [this]
    exact expo_zero
  · rw [decide_eq_true (not_lt.1 h2), select_true]
    exact expo_top

/-- A power of two is at most `r` exactly when its exponent is at most `⌊log r / log 2⌋`. -/
theorem zpow_le_iff (r : ℝ) (hr : 0 < r) (x : ℤ) : (2 : ℝ) ^ x ≤ r ↔ x ≤ ⌊Real.log r / Real.log 2⌋ := by
  have hl : 0 < Real.log 2 := Real.log_pos (by norm_num)
  rw [Int.le_floor, le_div_iff₀ hl, ← Real.log_zpow, Real.log_le_log_iff (by positivity) hr]

/-- In the band: the exponent field `k` of `t`, and the reference's exponent as `k - 126`. -/
theorem band (t : EReal) (h1 : Ideal.ofBits .f32 0x00800000#32 ≤ t) (h2 : t < Ideal.ofBits .f32 0x7B800000#32) :
    ∃ k : BitVec 8, k ≠ 0#8 ∧ k.toNat ≤ 246 ∧ word t = emb k ∧ refE t = ((((k.toNat : ℤ) - 126 : ℤ) : ℝ) : EReal) := by
  obtain ⟨r, rfl⟩ : ∃ r : ℝ, t = (r : EReal) := by
    induction t with
    | bot => rw [ofBits_min] at h1; simp at h1
    | top => simp at h2
    | coe r => exact ⟨r, rfl⟩
  have g1 := h1
  have g2 := h2
  rw [ofBits_min, EReal.coe_le_coe_iff] at h1
  rw [ofBits_max, EReal.coe_lt_coe_iff] at h2
  have hr : 0 < r := lt_of_lt_of_le (by positivity) h1
  obtain ⟨L, hL⟩ : ∃ L : ℤ, L = ⌊Real.log r / Real.log 2⌋ := ⟨_, rfl⟩
  have n1 : -126 ≤ L := hL ▸ (zpow_le_iff r hr _).1 h1
  have n2 : L < 120 := by
    by_contra hc
    exact absurd ((zpow_le_iff r hr 120).2 (hL ▸ not_lt.1 hc)) (not_le.2 h2)
  obtain ⟨n, hn⟩ : ∃ n : ℕ, L + 127 = n := ⟨(L + 127).toNat, by omega⟩
  have hk : (BitVec.ofNat 8 n).toNat = n := by rw [BitVec.toNat_ofNat]; exact Nat.mod_eq_of_lt (by omega)
  refine ⟨BitVec.ofNat 8 n, fun e => ?_, by omega, ?_, ?_⟩
  · have := congrArg BitVec.toNat e
    rw [hk] at this
    simp at this
    omega
  · unfold word
    rw [cmp_oge, decide_eq_false (not_le.2 g2), select_false]
    refine search_of r _ fun c hc => ?_
    have hc' : c.toNat ≠ 0 := fun e => hc (BitVec.eq_of_toNat_eq e)
    unfold below
    rw [hk]
    by_cases hc1 : c = 255#8
    · rw [hc1, ofBits_emb_top]
      rw [decide_eq_false (by simp), decide_eq_false (by simp; omega)]
    · rw [ofBits_emb c hc hc1]
      congr 1
      rw [EReal.coe_le_coe_iff]
      rw [zpow_le_iff r hr, ← hL, eq_iff_iff]
      omega
  · unfold refE
    rw [cmp_oge, cmp_olt, decide_eq_true g1, decide_eq_true g2, andi_true, select_true]
    have hl : Real.log 2 ≠ 0 := (Real.log_pos (by norm_num)).ne'
    rw [ofBits_two, ofBits_one, Ideal.log_coe, Ideal.log_coe, if_neg (not_le.2 hr), if_neg (by norm_num), Ideal.div_coe hl,
      ← EReal.coe_mul, Ideal.liftRound_coe, ← EReal.coe_add, mul_one_div]
    rw [← hL, hk]
    congr 1
    have : (n : ℤ) - 126 = L + 1 := by omega
    rw [this]
    push_cast
    ring

/-- Two to an integer. -/
theorem exp2_int (n : ℤ) : Ideal.exp2 (((n : ℝ)) : EReal) = (((2 : ℝ) ^ n : ℝ) : EReal) := by
  rw [Ideal.exp2_coe]
  congr 1
  exact Real.rpow_intCast 2 n

/-- The kernel's scale is the reference's. -/
theorem kScale_eq (t : EReal) : kScale t = refScale t := by
  unfold kScale refScale
  by_cases h : Ideal.ofBits .f32 0x00800000#32 ≤ t ∧ t < Ideal.ofBits .f32 0x7B800000#32
  · obtain ⟨k, h0, h1, hw, he⟩ := band t h.1 h.2
    have h0' : k.toNat ≠ 0 := fun e => h0 (BitVec.eq_of_toNat_eq e)
    have hs : (k + 1#8).toNat = k.toNat + 1 := by rw [BitVec.toNat_add]; simp; omega
    rw [hw, he, scale_word k h0 h1, exp2_int, ofBits_emb, hs]
    · congr 2
      push_cast
      ring
    · intro e; have := congrArg BitVec.toNat e; rw [hs] at this; simp at this
    · intro e; have := congrArg BitVec.toNat e; rw [hs] at this; simp at this; omega
  · rw [expo_out t h, refE_out t h, scale_one, ofBits_one, ← EReal.coe_zero, Ideal.exp2_coe]
    congr 1
    exact (Real.rpow_zero 2).symm

/-- The kernel's multiplier is the reference's. -/
theorem kInv_eq (t : EReal) : kInv t = refInv t := by
  unfold kInv refInv
  rw [ofBits_zero, zero_sub]
  by_cases h : Ideal.ofBits .f32 0x00800000#32 ≤ t ∧ t < Ideal.ofBits .f32 0x7B800000#32
  · obtain ⟨k, h0, h1, hw, he⟩ := band t h.1 h.2
    have h0' : k.toNat ≠ 0 := fun e => h0 (BitVec.eq_of_toNat_eq e)
    have hs : (253#8 - k).toNat = 253 - k.toNat := by rw [BitVec.toNat_sub]; simp; omega
    rw [hw, he, inv_word k h0 h1, ← EReal.coe_neg, ← Int.cast_neg, exp2_int, ofBits_emb, hs]
    · congr 2
      omega
    · intro e; have := congrArg BitVec.toNat e; rw [hs] at this; simp at this; omega
    · intro e; have := congrArg BitVec.toNat e; rw [hs] at this; simp at this; omega
  · rw [expo_out t h, refE_out t h, inv_one, ofBits_one, neg_zero, ← EReal.coe_zero, Ideal.exp2_coe]
    congr 1
    exact (Real.rpow_zero 2).symm

end Cert.Scale

end
-- ==== Proof.Spec.lean ====
/-
  The mathematics both programs compute, over functions of plain coordinates, and the vector operations of their bodies read
  at coordinates at any extents.
-/
module

public import proofs.«01_k».proof.Proof.Scale
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws

@[expose] public section

set_option maxRecDepth 16384

noncomputable section

namespace Cert.Spec

open Idealize.ShloMosaic Idealize.ShloMosaic.ValueIdx
open scoped BigOperators

/-! ### The mathematics -/

/-- The magnitude. -/
def mag (x : EReal) : EReal := max x (-x)

/-- The quotient a scale is taken from: the maximum times the float of 1/448. -/
def quot (a : EReal) : EReal := a * Ideal.ofBits .f32 0x3B124925#32

/-- A code: the value over the scale, clipped to ±448. -/
def code (x inv : EReal) : EReal :=
  min (Ideal.ofBits .f32 0x43E00000#32) (max (Ideal.ofBits .f32 0xC3E00000#32) (x * inv))

/-- A row's largest magnitude. -/
def rowMax {m d : ℕ} (x : Fin m → Fin d → EReal) (i : Fin m) : EReal := Finset.univ.sup fun k => mag (x i k)

/-- A matrix's largest magnitude. -/
def allMax {m f : ℕ} (y : Fin m → Fin f → EReal) : EReal := Finset.univ.sup fun p : Fin m × Fin f => mag (y p.1 p.2)

/-- The scale of each row of `x`. -/
def xScale {m d : ℕ} (x : Fin m → Fin d → EReal) (i : Fin m) : EReal := Scale.refScale (quot (rowMax x i))

/-- The codes of `x`, scaled by row. -/
def xCode {m d : ℕ} (x : Fin m → Fin d → EReal) (i : Fin m) (k : Fin d) : EReal :=
  code (x i k) (Scale.refInv (quot (rowMax x i)))

/-- One projection at an element: the product of the codes, times the row's scale, times the column's. -/
def proj {m d f : ℕ} (c : Fin m → Fin d → EReal) (s : Fin m → EReal) (w : Fin d → Fin f → EReal) (ws : Fin f → EReal)
    (i : Fin m) (j : Fin f) : EReal := (∑ k : Fin d, c i k * w k j) * s i * ws j

/-- The gated product `g · sigmoid g · u`. -/
def gate (g u : EReal) : EReal := g * FloatOps.logistic (F := Ideal) (φ := .f32) g * u

/-- The gated product of the two projections. -/
def swiglu {m d f : ℕ} (c : Fin m → Fin d → EReal) (s : Fin m → EReal) (wg wu : Fin d → Fin f → EReal) (wsg wsu : Fin f → EReal)
    (i : Fin m) (j : Fin f) : EReal := gate (proj c s wg wsg i j) (proj c s wu wsu i j)

/-- The scale of the whole of `y`. -/
def yScale {m f : ℕ} (y : Fin m → Fin f → EReal) : EReal := Scale.refScale (quot (allMax y))

/-- The codes of `y`, one scale for all. -/
def yCode {m f : ℕ} (y : Fin m → Fin f → EReal) (i : Fin m) (j : Fin f) : EReal :=
  code (y i j) (Scale.refInv (quot (allMax y)))

/-- The whole computation up to `y`: `x` quantized by row, the two projections of its codes, the gated product. -/
def yOfX {m d f : ℕ} (x : Fin m → Fin d → EReal) (wg wu : Fin d → Fin f → EReal) (wsg wsu : Fin f → EReal) :
    Fin m → Fin f → EReal := swiglu (xCode x) (xScale x) wg wu wsg wsu

/-- A magnitude is not negative. -/
theorem mag_nonneg (x : EReal) : 0 ≤ mag x := by
  unfold mag
  rcases le_total 0 x with h | h
  · exact le_max_of_le_left h
  · exact le_max_of_le_right (EReal.neg_nonneg.mpr h)

/-- No magnitude exceeds the largest. -/
theorem mag_le_allMax {m f : ℕ} (y : Fin m → Fin f → EReal) (i : Fin m) (j : Fin f) : mag (y i j) ≤ allMax y :=
  Finset.le_sup (f := fun p : Fin m × Fin f => mag (y p.1 p.2)) (Finset.mem_univ (i, j))

/-- A two-axis array as a function of its coordinates. -/
def co {α : Type} {m d : ℕ} (v : (⟨2, ![m, d]⟩ : Shape).Idx → α) (i : Fin m) (k : Fin d) : α := v (ix2 i k)

/-! ### Operations at coordinates -/

/-- Every index of a two-axis shape is its two coordinates. -/
theorem exists_ix2 {a b : ℕ} (y : (⟨2, ![a, b]⟩ : Shape).Idx) : ∃ (r : Fin a) (k : Fin b), y = ix2 r k :=
  ⟨y 0, y 1, ValueIdx.eq_ix2 y⟩

/-- The maximum along the last axis. -/
theorem max_axis1 {m d : ℕ} (v : FVec Ideal ⟨2, ![m, d]⟩ .f32) (h : (⟨2, ![m, d]⟩ : Shape).Reduces [1] ⟨1, ![m]⟩)
    (hφ : FKind.Formats .f32) (hacc : (0xFF800000#32 : BitVec 32) = FKind.maximumf.neutral .f32 hφ) (i : Fin m) :
    multiReduction .maximumf [1] ⟨1, ![m]⟩ v 0xFF800000#32 h hφ hacc (ix1 i) = Finset.univ.sup fun k : Fin d => v (ix2 i k) := by
  refine (Ideal.multiReduction_maximumf_single (a := 1) v _ h hφ hacc (ix1 i)).trans ?_
  rw [show FloatOps.ofBits (F := Ideal) .f32 0xFF800000#32 = (⊥ : EReal) from Scale.ofBits_bot]
  show Finset.sup _ _ = _
  refine Finset.sup_congr rfl fun k _ => ?_
  show v _ = v _
  congr 1
  funext a
  match a with
  | ⟨0, _⟩ => exact Fin.ext rfl
  | ⟨1, _⟩ => exact Fin.ext rfl

/-- The maximum along the first axis. -/
theorem max_axis0 {m d : ℕ} (v : FVec Ideal ⟨2, ![m, d]⟩ .f32) (h : (⟨2, ![m, d]⟩ : Shape).Reduces [0] ⟨1, ![d]⟩)
    (hφ : FKind.Formats .f32) (hacc : (0xFF800000#32 : BitVec 32) = FKind.maximumf.neutral .f32 hφ) (k : Fin d) :
    multiReduction .maximumf [0] ⟨1, ![d]⟩ v 0xFF800000#32 h hφ hacc (ix1 k) = Finset.univ.sup fun i : Fin m => v (ix2 i k) := by
  refine (Ideal.multiReduction_maximumf_single (a := 0) v _ h hφ hacc (ix1 k)).trans ?_
  rw [show FloatOps.ofBits (F := Ideal) .f32 0xFF800000#32 = (⊥ : EReal) from Scale.ofBits_bot]
  show Finset.sup _ _ = _
  refine Finset.sup_congr rfl fun i _ => ?_
  show v _ = v _
  congr 1
  funext a
  match a with
  | ⟨0, _⟩ => exact Fin.ext rfl
  | ⟨1, _⟩ => exact Fin.ext rfl

/-- The maximum over both axes, taken through a leading unit axis. -/
theorem max_all {m d : ℕ} (v : FVec Ideal ⟨2, ![m, d]⟩ .f32) (hc : (⟨2, ![m, d]⟩ : Shape).ShapeCasts ⟨3, ![1, m, d]⟩)
    (h : (⟨3, ![1, m, d]⟩ : Shape).Reduces [1, 2] ⟨1, ![1]⟩)
    (hφ : FKind.Formats .f32) (hacc : (0xFF800000#32 : BitVec 32) = FKind.maximumf.neutral .f32 hφ) (j : (⟨1, ![1]⟩ : Shape).Idx) :
    multiReduction .maximumf [1, 2] ⟨1, ![1]⟩ (shapeCast ⟨3, ![1, m, d]⟩ v hc) 0xFF800000#32 h hφ hacc j
      = Finset.univ.sup fun p : Fin m × Fin d => v (ix2 p.1 p.2) := by
  refine (multiReduction_maximumf_eq_fold (F := Ideal) _ _ h hφ hacc j).trans ?_
  rw [show FloatOps.ofBits (F := Ideal) .f32 0xFF800000#32 = (⊥ : EReal) from Scale.ofBits_bot]
  show Finset.sup _ _ = _
  apply le_antisymm
  · refine Finset.sup_le fun i _ => ?_
    obtain ⟨a, b, c, rfl⟩ : ∃ (a : Fin 1) (b : Fin m) (c : Fin d), i = ix3 a b c := ⟨i 0, i 1, i 2, by
      funext a
      match a with
      | ⟨0, _⟩ => rfl
      | ⟨1, _⟩ => rfl
      | ⟨2, _⟩ => rfl⟩
    rw [shapeCast_ab_1ab_apply]
    exact Finset.le_sup (f := fun p : Fin m × Fin d => v (ix2 p.1 p.2)) (Finset.mem_univ (b, c))
  · refine Finset.sup_le fun p _ => ?_
    rw [← shapeCast_ab_1ab_apply v hc (0 : Fin 1)]
    refine Finset.le_sup (f := shapeCast ⟨3, ![1, m, d]⟩ v hc) (Finset.mem_filter.mpr ⟨Finset.mem_univ _, ?_⟩)
    funext a
    match a with
    | ⟨0, _⟩ => exact Subsingleton.elim (α := Fin 1) _ _

/-- A column broadcast along the rows. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One element broadcast everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- A plain product over a zero accumulator. -/
theorem matmul_zero_apply {m d f : ℕ} {φ₁ φ₂ : FTy} (prec : Option ContractPrecision) (lhs : FVec Ideal ⟨2, ![m, d]⟩ φ₁)
    (rhs : FVec Ideal ⟨2, ![d, f]⟩ φ₂) (i : Fin m) (j : Fin f) :
    matmul (F := Ideal) (DotDims.plain m d f) prec lhs rhs (constant ⟨2, ![m, f]⟩ .f32 0x00000000#32) (ix2 i j)
      = ∑ k : Fin d, lhs (ix2 i k) * rhs (ix2 k j) := by
  refine (Ideal.matmul_plain_apply prec lhs rhs _ i j).trans ?_
  rw [show constant (F := Ideal) ⟨2, ![m, f]⟩ .f32 0x00000000#32 (ix2 i j) = (0 : EReal) from Scale.ofBits_zero]
  exact zero_add _

/-! ### The kernel's scale over a vector -/

section Vector

variable {s : Shape}

/-- One step of the search in every lane. -/
def vstep (t : FVec Ideal s .f32) (b : BitVec 32) (w : IVec s 32) : IVec s 32 :=
  select (cmpf .ole (bitcastToFloat .f32 (ori w (broadcast s b))) t) (ori w (broadcast s b)) w

/-- A step of the search in one lane. -/
theorem vstep_apply (t : FVec Ideal s .f32) (b : BitVec 32) (w : IVec s 32) (j : s.Idx) :
    vstep t b w j = Scale.step (t j) b (w j) := rfl

/-- The exponent in every lane, from the searched word. -/
def vexpo (t : FVec Ideal s .f32) (w : IVec s 32) : IVec s 32 :=
  have w : IVec s 32 := select (cmpf .oge t (broadcast s (Scalar.ofBits .f32 0x7B800000#32))) (broadcast s 2139095040#32) w
  have f : IVec s 32 := andi (shrsi w (broadcast s 23#32)) (broadcast s 255#32)
  select (ori (cmpi .eq f (broadcast s 0#32)) (cmpi .eq f (broadcast s 255#32))) (broadcast s 0#32) (subi f (broadcast s 126#32))

/-- The exponent in one lane. -/
theorem vexpo_apply (t : FVec Ideal s .f32) (w : IVec s 32) (j : s.Idx) :
    vexpo t w j = Scale.expo (Scalar.select (Ideal.cmp .oge (t j) (Ideal.ofBits .f32 0x7B800000#32)) 2139095040#32 (w j)) := rfl

/-- The seven leading steps of the search. -/
def vseven (t : FVec Ideal s .f32) : IVec s 32 :=
  vstep t 16777216#32 (vstep t 33554432#32 (vstep t 67108864#32 (vstep t 134217728#32
    (vstep t 268435456#32 (vstep t 536870912#32 (vstep t 1073741824#32 (broadcast s 0#32)))))))

/-- After all eight steps the exponent is the one of the lane's searched word. -/
theorem vexpo_search (t : FVec Ideal s .f32) (j : s.Idx) :
    vexpo t (vstep t 8388608#32 (vseven t)) j = Scale.expo (Scale.word (t j)) := by
  rw [vexpo_apply]
  unfold vseven Scale.word Scale.search
  simp only [vstep_apply]
  rfl

end Vector

end Cert.Spec

end
-- ==== Proof.Quant.lean ====
/-
  The kernel's first call, which quantizes `x` by row: its blocks at coordinates, and the two arrays it leaves.
-/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Val

open Idealize.ShloMosaic hiding ix1 ix2 ix3 truncf_apply mulf_apply maximumf_apply minimumf_apply
open Idealize.ShloMosaic.TcCoe Idealize.ShloMosaic.ValueIdx
open Idealize.ShloMosaic.Pipeline (Dat)
open Cert.KernelIdeal Cert.KernelIdeal.Gen Cert.Spec

/-- The quotient the first call takes row `r`'s scale from, in every lane. -/
theorem k0_pay2_apply (v : Vec Ideal S256x6656 .bf16) (r : Fin 256) (l : Fin 128) :
    k0_pay2 (F := Ideal) v (ix2 r l) = quot (rowMax (co v) r) := by
  unfold k0_pay2 k0_pay1
  dsimp only
  rw [shapeCast_self, shapeCast_self, mulf_apply, broadcastTo_a1_ab_apply, shapeCast_a_a1_apply]
  exact congrArg (· * Ideal.ofBits .f32 0x3B124925#32) (max_axis1 (m := 256) (d := 6656) _ _ _ _ r)

/-- The first call's word after seven steps of the search. -/
theorem k0_pay3_eq (v : Vec Ideal S256x6656 .bf16) : k0_pay3 (F := Ideal) v = vseven (k0_pay2 v) := by
  unfold k0_pay3
  rfl

/-- The first call's exponent, from the word before the last step. -/
theorem k0_pay4_eq (t : FVec Ideal S256x128 .f32) (w : IVec S256x128 32) (b : BitVec 32) :
    k0_pay4 (F := Ideal) t w b = vexpo t (vstep t b w) := by
  unfold k0_pay4
  rfl

/-- The first call's exponent in each lane is the searched exponent of the lane's quotient. -/
theorem k0_expo (v : Vec Ideal S256x6656 .bf16) (j : S256x128.Idx) :
    k0_pay4 (F := Ideal) (k0_pay2 v) (k0_pay3 v) 8388608#32 j = Scale.expo (Scale.word (k0_pay2 (F := Ideal) v j)) := by
  rw [k0_pay4_eq, k0_pay3_eq, vexpo_search]

/-- The scale block of the first call. -/
theorem k0_pay5_apply (v : Vec Ideal S256x6656 .bf16) (j : S256x128.Idx) :
    k0_pay5 (F := Ideal) (k0_pay2 v) (k0_pay3 v) 8388608#32 j = Scale.refScale (k0_pay2 (F := Ideal) v j) := by
  rw [← Scale.kScale_eq]
  unfold Scale.kScale
  rw [← k0_expo]
  rfl

/-- The code block of the first call. -/
theorem k0_pay6_apply (v : Vec Ideal S256x6656 .bf16) (r : Fin 256) (k : Fin 6656) :
    k0_pay6 (F := Ideal) (k0_pay1 v) (k0_pay2 v) (k0_pay3 v) 8388608#32 (ix2 r k)
      = code (v (ix2 r k)) (Scale.refInv (k0_pay2 (F := Ideal) v (ix2 r 0))) := by
  rw [← Scale.kInv_eq]
  unfold Scale.kInv
  rw [← k0_expo]
  unfold k0_pay6 k0_pay1
  dsimp only
  rw [shapeCast_self, truncf_apply, minimumf_apply, maximumf_apply, mulf_apply, broadcastTo_a1_ab_apply,
    extractStridedSlice_apply (k := ix2 r (0 : Fin 128))]
  · rfl
  · intro a
    match a with
    | ⟨0, _⟩ => show r.val = 0 + r.val; omega
    | ⟨1, _⟩ => rfl

/-- The largest of the running maxima. -/
def cellMax (v : Vec Ideal S8x128 .f32) : EReal := Finset.univ.sup fun p : Fin 8 × Fin 128 => v (ix2 p.1 p.2)

/-- Each running maximum is at most the largest. -/
theorem le_cellMax (v : Vec Ideal S8x128 .f32) (s : Fin 8) (l : Fin 128) : v (ix2 s l) ≤ cellMax v :=
  Finset.le_sup (f := fun p : Fin 8 × Fin 128 => v (ix2 p.1 p.2)) (Finset.mem_univ (s, l))

section Arrays

variable (V : (c : Dev nD) → (b : Ref sig .tc) → Buf (Elt Ideal) ((c : Thread nD τ).loc b))

/-- Where the block of `x` at a point starts. -/
theorem idx0_0 : ∀ t : Fin cfg0.N, win0_0.index t = ![t.val, 0] := (by decide +kernel : ∀ t : Fin grid0.N, _)
/-- Where the block of codes goes. -/
theorem idx0_1 : ∀ t : Fin cfg0.N, win0_1.index t = ![t.val, 0] := (by decide +kernel : ∀ t : Fin grid0.N, _)
/-- Where the block of scales goes. -/
theorem idx0_2 : ∀ t : Fin cfg0.N, win0_2.index t = ![t.val, 0] := (by decide +kernel : ∀ t : Fin grid0.N, _)

/-- The first call has 48 points. -/
theorem lt0 (t : Fin cfg0.N) : t.val < 48 := lt_of_lt_of_eq t.isLt Gen.N_0

/-- Row `r` of block `t` in the array. -/
def row0 (t : Fin cfg0.N) (r : Fin 256) : Fin 12288 := ⟨t.val * 256 + r.val, by have := lt0 t; have := r.isLt; omega⟩

/-- The block of `x` at a point, at coordinates. -/
theorem iblk0_apply (c : Dev nD) (t : Fin cfg0.N) (r : Fin 256) (k : Fin 6656) :
    iblk0 V c 0 t (ix2 r k) = (V c main_v0 : S12288x6656.Idx → EReal) (ix2 (row0 t r) k) := by
  blk_ext [iblk0, idx0_0, row0]

/-- A row's maximum is the same in the block as in the array. -/
theorem rowMax0 (c : Dev nD) (t : Fin cfg0.N) (r : Fin 256) :
    rowMax (co (iblk0 V c 0 t : S256x6656.Idx → EReal)) r = rowMax (co (V c main_v0 : S12288x6656.Idx → EReal)) (row0 t r) :=
  Finset.sup_congr rfl fun k _ => congrArg mag (iblk0_apply V c t r k)

/-- The first call's codes. -/
theorem codes_eq (c : Dev nD) :
    (dat0 V c).arrAt 1 cfg0.N = fun j : S12288x6656.Idx => xCode (co (V c main_v0 : S12288x6656.Idx → EReal)) (j 0) (j 1) := by
  refine (dat0 V c).arrAt_eq_of_covers 1 _ (by decide +kernel) fun t hf y => ?_
  blk_simp
  rw [after0_1]
  frame_out
  obtain ⟨r, k, rfl⟩ := exists_ix2 (a := 256) (b := 6656) y
  unfold k0_pay7 k0_pay8
  rw [View.ld_unit_lit _ _ (by decide)]
  have e0 : ((View.whole main_v1_0).slice (win0_1.rect t)).emb (ix2 r k) 0 = row0 t r := by
    apply Fin.ext; blk_simp [idx0_1]; rfl
  have e1 : ((View.whole main_v1_0).slice (win0_1.rect t)).emb (ix2 r k) 1 = k := by
    apply Fin.ext; blk_simp [idx0_1]; rfl
  rw [e0, e1, k0_pay6_apply, k0_pay2_apply, rowMax0, iblk0_apply]
  rfl

/-- The first call's scales, the same in every lane. -/
theorem scales_eq (c : Dev nD) :
    (dat0 V c).arrAt 2 cfg0.N = fun j : S12288x128.Idx => xScale (co (V c main_v0 : S12288x6656.Idx → EReal)) (j 0) := by
  refine (dat0 V c).arrAt_eq_of_covers 2 _ (by decide +kernel) fun t hf y => ?_
  blk_simp
  rw [after0_2]
  frame_out
  obtain ⟨r, k, rfl⟩ := exists_ix2 (a := 256) (b := 128) y
  unfold k0_pay7 k0_pay8
  rw [View.ld_unit_lit _ _ (by decide)]
  have e0 : ((View.whole main_v1_1).slice (win0_2.rect t)).emb (ix2 r k) 0 = row0 t r := by
    apply Fin.ext; blk_simp [idx0_2]; rfl
  rw [e0, k0_pay5_apply, k0_pay2_apply, rowMax0]
  rfl

end Arrays

end Cert.KernelIdeal.Val

end
-- ==== Proof.Gated.lean ====
/-
  The kernel's second call, the gated product of the two projections: its block at coordinates, the array it leaves, and
  the running maximum it keeps beside it.
-/
module

public import proofs.«01_k».proof.Proof.Quant

@[expose] public section

set_option maxRecDepth 16384

noncomputable section

namespace Cert.KernelIdeal.Val

open Idealize.ShloMosaic hiding ix1 ix2 ix3 truncf_apply mulf_apply maximumf_apply minimumf_apply
open Idealize.ShloMosaic.TcCoe Idealize.ShloMosaic.ValueIdx
open Idealize.ShloMosaic.Pipeline (Dat)
open Cert.KernelIdeal Cert.KernelIdeal.Gen Cert.Spec

/-- One projection of a block: product, row scale, column scale. -/
theorem k1_proj (v5 : Vec Ideal S1024x6656 .fp8e4m3) (v7 : Vec Ideal S1024x1 .f32) (v9 : Vec Ideal S1x6656x512 .fp8e4m3)
    (v14 : Vec Ideal S1x512 .f32) (r : Fin 1024) (j : Fin 512) :
    mulf (mulf (matmul (F := Ideal) dot_S1024x6656_S6656x512_S1024x512_1_0_0_1_n_n none
        (shapeCast S1024x6656 v5 shapeCasts_S1024x6656_S1024x6656 : FVec Ideal S1024x6656 .fp8e4m3)
        (shapeCast S6656x512 v9 shapeCasts_S1x6656x512_S6656x512 : FVec Ideal S6656x512 .fp8e4m3)
        (constant S1024x512 .f32 0x00000000#32))
        (broadcastTo S1024x512 (shapeCast S1024x1 v7 shapeCasts_S1024x1_S1024x1) broadcasts_S1024x1_S1024x512))
      (broadcastTo S1024x512 v14 broadcasts_S1x512_S1024x512 : FVec Ideal S1024x512 .f32) (ix2 r j)
      = proj (co v5) (fun r => v7 (ix2 r 0)) (fun k j => v9 (ix3 0 k j)) (fun j => v14 (ix2 0 j)) r j := by
  rw [mulf_apply, mulf_apply, shapeCast_self, shapeCast_self, broadcastTo_a1_ab_apply, broadcastTo_1b_ab_apply]
  unfold proj
  refine congrArg (· * v7 (ix2 r 0) * v14 (ix2 0 j)) ?_
  refine (matmul_zero_apply (m := 1024) (d := 6656) (f := 512) none _ _ r j).trans ?_
  refine Finset.sum_congr rfl fun k _ => ?_
  exact congrArg (v5 (ix2 r k) * ·) (shapeCast_1ab_ab_apply v9 _ k j)

/-- The block of `y` at an element. -/
theorem k1_pay3_apply (v5 : Vec Ideal S1024x6656 .fp8e4m3) (v7 : Vec Ideal S1024x1 .f32) (v9 v17 : Vec Ideal S1x6656x512 .fp8e4m3)
    (v14 v22 : Vec Ideal S1x512 .f32) (r : Fin 1024) (j : Fin 512) :
    k1_pay3 (F := Ideal) v5 v7 v9 v14 v17 v22 (ix2 r j)
      = swiglu (co v5) (fun r => v7 (ix2 r 0)) (fun k j => v9 (ix3 0 k j)) (fun k j => v17 (ix3 0 k j))
          (fun j => v14 (ix2 0 j)) (fun j => v22 (ix2 0 j)) r j := by
  unfold swiglu
  rw [← k1_proj, ← k1_proj]
  rfl

/-- The columns' maxima of a block of `y`. -/
theorem k1_pay4_apply (v5 : Vec Ideal S1024x6656 .fp8e4m3) (v7 : Vec Ideal S1024x1 .f32) (v9 v17 : Vec Ideal S1x6656x512 .fp8e4m3)
    (v14 v22 : Vec Ideal S1x512 .f32) (j : Fin 512) :
    k1_pay4 (F := Ideal) v5 v7 v9 v14 v17 v22 (ix2 0 j)
      = Finset.univ.sup fun r : Fin 1024 => mag (k1_pay3 (F := Ideal) v5 v7 v9 v14 v17 v22 (ix2 r j)) := by
  unfold k1_pay4
  dsimp only
  rw [shapeCast_a_1a_apply]
  exact max_axis0 (m := 1024) (d := 512) _ _ _ _ j

/-- A lane of the running maximum after a block: what it held, and the four columns that fall on the lane. -/
theorem k1_pay1_apply (v31 : FVec Ideal S1x512 .f32) (v39 : Vec Ideal S8x128 .f32) (s : Fin 8) (l : Fin 128) :
    k1_pay1 (F := Ideal) v31 (extractStridedSlice S1x128 ![0, 0] v31 slices_S1x512_o0_0_S1x128)
        (extractStridedSlice S1x128 ![0, 128] v31 slices_S1x512_o0_128_S1x128) v39 (ix2 s l)
      = max (v39 (ix2 s l)) (max (max (max (v31 (ix2 0 ⟨0 + l.val, by omega⟩)) (v31 (ix2 0 ⟨128 + l.val, by omega⟩)))
          (v31 (ix2 0 ⟨256 + l.val, by omega⟩))) (v31 (ix2 0 ⟨384 + l.val, by omega⟩))) := by
  unfold k1_pay1
  rw [maximumf_apply, shapeCast_self, shapeCast_self, broadcastTo_1b_ab_apply, maximumf_apply, maximumf_apply, maximumf_apply]
  refine congrArg₂ _ rfl (congrArg₂ _ (congrArg₂ _ (congrArg₂ _ ?_ ?_) ?_) ?_) <;>
  · refine extractStridedSlice_apply (k := ix2 0 _) _ _ _ _ fun a => ?_
    match a with
    | ⟨0, _⟩ => rfl
    | ⟨1, _⟩ => rfl

section Arrays

variable (V : (c : Dev nD) → (b : Ref sig .tc) → Buf (Elt Ideal) ((c : Thread nD τ).loc b))

/-- Where the block of codes at a point starts: the row block. -/
theorem idx1_0 : ∀ t : Fin cfg1.N, win1_0.index t = ![t.val % 12, 0] := (by decide +kernel : ∀ t : Fin grid1.N, _)
/-- Where the block of row scales starts. -/
theorem idx1_1 : ∀ t : Fin cfg1.N, win1_1.index t = ![t.val % 12, 0] := (by decide +kernel : ∀ t : Fin grid1.N, _)
/-- Where the block of weights starts: the column block. -/
theorem idx1_2 : ∀ t : Fin cfg1.N, win1_2.index t = ![0, 0, t.val / 12] := (by decide +kernel : ∀ t : Fin grid1.N, _)
/-- Where the block of column scales starts. -/
theorem idx1_3 : ∀ t : Fin cfg1.N, win1_3.index t = ![0, t.val / 12] := (by decide +kernel : ∀ t : Fin grid1.N, _)
/-- Where the block of `y` goes. -/
theorem idx1_4 : ∀ t : Fin cfg1.N, win1_4.index t = ![t.val % 12, t.val / 12] := (by decide +kernel : ∀ t : Fin grid1.N, _)
/-- The running maximum is one block. -/
theorem idx1_5 : ∀ t : Fin cfg1.N, win1_5.index t = ![0, 0] := (by decide +kernel : ∀ t : Fin grid1.N, _)

/-- The second call has 420 points. -/
theorem lt1 (t : Fin cfg1.N) : t.val < 420 := lt_of_lt_of_eq t.isLt Gen.N_1

/-- Row `r` of the point's block in the array. -/
def row1 (t : Fin cfg1.N) (r : Fin 1024) : Fin 12288 := ⟨t.val % 12 * 1024 + r.val, by have := r.isLt; omega⟩

/-- Column `j` of the point's block in the array. -/
def col1 (t : Fin cfg1.N) (j : Fin 512) : Fin 17920 := ⟨t.val / 12 * 512 + j.val, by have := lt1 t; have := j.isLt; omega⟩

/-- The gated product over the whole arrays the second call reads. -/
def yOf (c : Dev nD) : Fin 12288 → Fin 17920 → EReal :=
  swiglu (co (V c main_v1_0 : S12288x6656.Idx → EReal)) (fun i => (V c main_v1_1 : S12288x128.Idx → EReal) (ix2 i 0))
    (fun k j => (V c main_v2 : S2x6656x17920.Idx → EReal) (ix3 0 k j)) (fun k j => (V c main_v2 : S2x6656x17920.Idx → EReal) (ix3 1 k j))
    (fun j => (V c main_arg2 : S2x17920.Idx → EReal) (ix2 0 j)) (fun j => (V c main_arg2 : S2x17920.Idx → EReal) (ix2 1 j))

/-- The block of codes at a point, at coordinates. -/
theorem iblk1_0_apply (c : Dev nD) (t : Fin cfg1.N) (r : Fin 1024) (k : Fin 6656) :
    iblk1 V c 0 t (ix2 r k) = (V c main_v1_0 : S12288x6656.Idx → EReal) (ix2 (row1 t r) k) := by
  blk_ext [iblk1, idx1_0, row1]

/-- The block of row scales at a point, at coordinates. -/
theorem iblk1_1_apply (c : Dev nD) (t : Fin cfg1.N) (r : Fin 1024) (k : Fin 128) :
    iblk1 V c 1 t (ix2 r k) = (V c main_v1_1 : S12288x128.Idx → EReal) (ix2 (row1 t r) k) := by
  blk_ext [iblk1, idx1_1, row1]

/-- The block of weights at a point, at coordinates. -/
theorem iblk1_2_apply (c : Dev nD) (t : Fin cfg1.N) (g : Fin 2) (k : Fin 6656) (j : Fin 512) :
    iblk1 V c 2 t (ix3 g k j) = (V c main_v2 : S2x6656x17920.Idx → EReal) (ix3 g k (col1 t j)) := by
  blk_ext [iblk1, idx1_2, col1]

/-- The block of column scales at a point, at coordinates. -/
theorem iblk1_3_apply (c : Dev nD) (t : Fin cfg1.N) (g : Fin 2) (j : Fin 512) :
    iblk1 V c 3 t (ix2 g j) = (V c main_arg2 : S2x17920.Idx → EReal) (ix2 g (col1 t j)) := by
  blk_ext [iblk1, idx1_3, col1]

/-- A block of `y` as the second call computes it from its staged blocks. -/
def yBlk (x0 : Vec Ideal S1024x6656 .fp8e4m3) (x1 : Vec Ideal S1024x128 .f32) (x2 : Vec Ideal S2x6656x512 .fp8e4m3)
    (x3 : Vec Ideal S2x512 .f32) : FVec Ideal S1024x512 .f32 :=
  k1_pay3 x0
    (View.ld x1 (Rect.unit (s := S1024x128) ![0, 0] S1024x1.size inb_S1024x128_S1024x1_0_0))
    (View.ld x2 (Rect.unit (s := S2x6656x512) ![0, 0, 0] S1x6656x512.size inb_S2x6656x512_S1x6656x512_0_0_0))
    (View.ld x3 (Rect.unit (s := S2x512) ![0, 0] S1x512.size inb_S2x512_S1x512_0_0))
    (View.ld x2 (Rect.unit (s := S2x6656x512) ![1, 0, 0] S1x6656x512.size inb_S2x6656x512_S1x6656x512_1_0_0))
    (View.ld x3 (Rect.unit (s := S2x512) ![1, 0] S1x512.size inb_S2x512_S1x512_1_0))

/-- The columns' maxima of that block. -/
def cBlk (x0 : Vec Ideal S1024x6656 .fp8e4m3) (x1 : Vec Ideal S1024x128 .f32) (x2 : Vec Ideal S2x6656x512 .fp8e4m3)
    (x3 : Vec Ideal S2x512 .f32) : FVec Ideal S1x512 .f32 :=
  k1_pay4 x0
    (View.ld x1 (Rect.unit (s := S1024x128) ![0, 0] S1024x1.size inb_S1024x128_S1024x1_0_0))
    (View.ld x2 (Rect.unit (s := S2x6656x512) ![0, 0, 0] S1x6656x512.size inb_S2x6656x512_S1x6656x512_0_0_0))
    (View.ld x3 (Rect.unit (s := S2x512) ![0, 0] S1x512.size inb_S2x512_S1x512_0_0))
    (View.ld x2 (Rect.unit (s := S2x6656x512) ![1, 0, 0] S1x6656x512.size inb_S2x6656x512_S1x6656x512_1_0_0))
    (View.ld x3 (Rect.unit (s := S2x512) ![1, 0] S1x512.size inb_S2x512_S1x512_1_0))

/-- The running maximum after a block, from the block's column maxima and what it held. -/
def mBlk (v31 : FVec Ideal S1x512 .f32) (v39 : Vec Ideal S8x128 .f32) : FVec Ideal S8x128 .f32 :=
  k1_pay1 (F := Ideal) v31 (extractStridedSlice S1x128 ![0, 0] v31 slices_S1x512_o0_0_S1x128)
        (extractStridedSlice S1x128 ![0, 128] v31 slices_S1x512_o0_128_S1x128) v39

/-- A point's block of `y` is the gated product at the point's rows and columns. -/
theorem yBlk_apply (c : Dev nD) (t : Fin cfg1.N) (r : Fin 1024) (j : Fin 512) :
    yBlk (iblk1 V c 0 t) (iblk1 V c 1 t) (iblk1 V c 2 t) (iblk1 V c 3 t) (ix2 r j) = yOf V c (row1 t r) (col1 t j) := by
  unfold yBlk
  rw [k1_pay3_apply]
  have h0 : ∀ k, co (iblk1 V c 0 t : S1024x6656.Idx → EReal) r k = co (V c main_v1_0 : S12288x6656.Idx → EReal) (row1 t r) k :=
    fun k => iblk1_0_apply V c t r k
  have h1 : View.ld (iblk1 V c 1 t : S1024x128.Idx → EReal)
      (Rect.unit (s := S1024x128) ![0, 0] S1024x1.size inb_S1024x128_S1024x1_0_0) (ix2 r 0)
      = (V c main_v1_1 : S12288x128.Idx → EReal) (ix2 (row1 t r) 0) := by
    refine (View.ld_unit_apply_of (i := ix2 r (0 : Fin 128)) _ _ _ _ _ fun a => ?_).trans (iblk1_1_apply V c t r 0)
    match a with
    | ⟨0, _⟩ => show r.val = 0 + r.val; omega
    | ⟨1, _⟩ => rfl
  have h2 : ∀ k, View.ld (iblk1 V c 2 t : S2x6656x512.Idx → EReal)
      (Rect.unit (s := S2x6656x512) ![0, 0, 0] S1x6656x512.size inb_S2x6656x512_S1x6656x512_0_0_0) (ix3 0 k j)
      = (V c main_v2 : S2x6656x17920.Idx → EReal) (ix3 0 k (col1 t j)) := fun k => by
    refine (View.ld_unit_apply_of (i := ix3 (0 : Fin 2) k j) _ _ _ _ _ fun a => ?_).trans (iblk1_2_apply V c t 0 k j)
    match a with
    | ⟨0, _⟩ => rfl
    | ⟨1, _⟩ => show k.val = 0 + k.val; omega
    | ⟨2, _⟩ => show j.val = 0 + j.val; omega
  have h3 : ∀ k, View.ld (iblk1 V c 2 t : S2x6656x512.Idx → EReal)
      (Rect.unit (s := S2x6656x512) ![1, 0, 0] S1x6656x512.size inb_S2x6656x512_S1x6656x512_1_0_0) (ix3 0 k j)
      = (V c main_v2 : S2x6656x17920.Idx → EReal) (ix3 1 k (col1 t j)) := fun k => by
    refine (View.ld_unit_apply_of (i := ix3 (1 : Fin 2) k j) _ _ _ _ _ fun a => ?_).trans (iblk1_2_apply V c t 1 k j)
    match a with
    | ⟨0, _⟩ => rfl
    | ⟨1, _⟩ => show k.val = 0 + k.val; omega
    | ⟨2, _⟩ => show j.val = 0 + j.val; omega
  have h4 : View.ld (iblk1 V c 3 t : S2x512.Idx → EReal)
      (Rect.unit (s := S2x512) ![0, 0] S1x512.size inb_S2x512_S1x512_0_0) (ix2 0 j)
      = (V c main_arg2 : S2x17920.Idx → EReal) (ix2 0 (col1 t j)) := by
    refine (View.ld_unit_apply_of (i := ix2 (0 : Fin 2) j) _ _ _ _ _ fun a => ?_).trans (iblk1_3_apply V c t 0 j)
    match a with
    | ⟨0, _⟩ => rfl
    | ⟨1, _⟩ => show j.val = 0 + j.val; omega
  have h5 : View.ld (iblk1 V c 3 t : S2x512.Idx → EReal)
      (Rect.unit (s := S2x512) ![1, 0] S1x512.size inb_S2x512_S1x512_1_0) (ix2 0 j)
      = (V c main_arg2 : S2x17920.Idx → EReal) (ix2 1 (col1 t j)) := by
    refine (View.ld_unit_apply_of (i := ix2 (1 : Fin 2) j) _ _ _ _ _ fun a => ?_).trans (iblk1_3_apply V c t 1 j)
    match a with
    | ⟨0, _⟩ => rfl
    | ⟨1, _⟩ => show j.val = 0 + j.val; omega
  show gate _ _ = gate _ _
  unfold proj
  refine congrArg₂ gate ?_ ?_
  · refine congrArg₂ (· * ·) (congrArg₂ (· * ·) (Finset.sum_congr rfl fun k _ => congrArg₂ (· * ·) (h0 k) (h2 k)) h1) h4
  · refine congrArg₂ (· * ·) (congrArg₂ (· * ·) (Finset.sum_congr rfl fun k _ => congrArg₂ (· * ·) (h0 k) (h3 k)) h1) h5

/-- The column maxima of a point's block. -/
theorem cBlk_apply (c : Dev nD) (t : Fin cfg1.N) (j : Fin 512) :
    cBlk (iblk1 V c 0 t) (iblk1 V c 1 t) (iblk1 V c 2 t) (iblk1 V c 3 t) (ix2 0 j)
      = Finset.univ.sup fun r : Fin 1024 => mag (yOf V c (row1 t r) (col1 t j)) := by
  unfold cBlk
  rw [k1_pay4_apply]
  exact Finset.sup_congr rfl fun r _ => congrArg mag (yBlk_apply V c t r j)

/-- What a point leaves in the block of `y`. -/
theorem after_y (c : Dev nD) (t : Fin cfg1.N) :
    (outsAt1 V c t.val t.isLt).1 = yBlk (iblk1 V c 0 t) (iblk1 V c 1 t) (iblk1 V c 2 t) (iblk1 V c 3 t) := by
  unfold yBlk
  by_cases h : t.val % 420 = 0
  · rw [outsAt1_A V c t h]
    frame_out
  · rw [outsAt1_B V c t h]
    frame_out

/-- What the first point leaves in the running maximum: the block's maxima over zeros. -/
theorem after_m_first (c : Dev nD) (t : Fin cfg1.N) (h : t.val % 420 = 0) :
    (outsAt1 V c t.val t.isLt).2 = mBlk (cBlk (iblk1 V c 0 t) (iblk1 V c 1 t) (iblk1 V c 2 t) (iblk1 V c 3 t)) (fun _ => 0) := by
  rw [outsAt1_A V c t h]
  frame_out
  have hz : k1_pay2 (F := Ideal) = fun _ => (0 : EReal) := funext fun _ => Scale.ofBits_zero
  rw [hz]
  rfl

/-- What a later point leaves in the running maximum. -/
theorem after_m_next (c : Dev nD) (t : Fin cfg1.N) (h : ¬ t.val % 420 = 0) :
    (outsAt1 V c t.val t.isLt).2 = mBlk (cBlk (iblk1 V c 0 t) (iblk1 V c 1 t) (iblk1 V c 2 t) (iblk1 V c 3 t))
      (outsAt1 V c (t.val - 1) (Nat.lt_of_le_of_lt (Nat.sub_le _ _) t.isLt)).2 := by
  rw [outsAt1_B V c t h]
  frame_out
  rfl

/-- The array of `y` after the second call. -/
theorem y_eq (c : Dev nD) :
    (dat1 V c).arrAt 4 cfg1.N = fun j : S12288x17920.Idx => yOf V c (j 0) (j 1) := by
  refine (dat1 V c).arrAt_eq_of_covers 4 _ (by decide +kernel) fun t hf y => ?_
  blk_simp
  rw [after1_4, after_y]
  obtain ⟨r, k, rfl⟩ := exists_ix2 (a := 1024) (b := 512) y
  have e0 : ((View.whole main_v3_0).slice (win1_4.rect t)).emb (ix2 r k) 0 = row1 t r := by
    apply Fin.ext; blk_simp [idx1_4]; rfl
  have e1 : ((View.whole main_v3_0).slice (win1_4.rect t)).emb (ix2 r k) 1 = col1 t k := by
    apply Fin.ext; blk_simp [idx1_4]; rfl
  rw [e0, e1, yBlk_apply]

/-! ### The running maximum -/

/-- The running maximum only grows. -/
theorem le_mBlk (v : FVec Ideal S1x512 .f32) (p : Vec Ideal S8x128 .f32) (s : Fin 8) (l : Fin 128) :
    p (ix2 s l) ≤ mBlk v p (ix2 s l) := by
  unfold mBlk
  rw [k1_pay1_apply]
  exact le_max_left _ _

/-- It is at least every column's maximum, in the column's lane. -/
theorem col_le_mBlk (v : FVec Ideal S1x512 .f32) (p : Vec Ideal S8x128 .f32) (s : Fin 8) (j : Fin 512) :
    v (ix2 0 j) ≤ mBlk v p (ix2 s ⟨j.val % 128, Nat.mod_lt _ (by decide)⟩) := by
  unfold mBlk
  rw [k1_pay1_apply]
  have hj := j.isLt
  refine le_max_of_le_right ?_
  have e : ∀ (n : ℕ) (h : n < 512), n = j.val → v (ix2 0 j) ≤ v (ix2 0 (⟨n, h⟩ : Fin 512)) := fun n h hn => by
    subst hn; exact le_refl _
  rcases (by omega : j.val / 128 = 0 ∨ j.val / 128 = 1 ∨ j.val / 128 = 2 ∨ j.val / 128 = 3) with h | h | h | h
  · exact le_max_of_le_left (le_max_of_le_left (le_max_of_le_left (e _ _ (by show 0 + j.val % 128 = j.val; omega))))
  · exact le_max_of_le_left (le_max_of_le_left (le_max_of_le_right (e _ _ (by show 128 + j.val % 128 = j.val; omega))))
  · exact le_max_of_le_left (le_max_of_le_right (e _ _ (by show 256 + j.val % 128 = j.val; omega)))
  · exact le_max_of_le_right (e _ _ (by show 384 + j.val % 128 = j.val; omega))

/-- It stays below any bound of what it held and of the columns' maxima. -/
theorem mBlk_le (v : FVec Ideal S1x512 .f32) (p : Vec Ideal S8x128 .f32) (B : EReal) (s : Fin 8) (l : Fin 128)
    (hp : p (ix2 s l) ≤ B) (hv : ∀ j : Fin 512, v (ix2 0 j) ≤ B) : mBlk v p (ix2 s l) ≤ B := by
  unfold mBlk
  rw [k1_pay1_apply]
  exact max_le hp (max_le (max_le (max_le (hv _) (hv _)) (hv _)) (hv _))

/-- After position `n` every cell of the running maximum lies between zero and the whole maximum, and every element of a
    block up to `n` is below the cells of its column's lane. -/
theorem running (c : Dev nD) : ∀ (n : ℕ) (hn : n < cfg1.N),
    (∀ s l, 0 ≤ (outsAt1 V c n hn).2 (ix2 (s : Fin 8) (l : Fin 128))
      ∧ (outsAt1 V c n hn).2 (ix2 (s : Fin 8) (l : Fin 128)) ≤ allMax (yOf V c))
    ∧ ∀ t : Fin cfg1.N, t.val ≤ n → ∀ (r : Fin 1024) (j : Fin 512) (s : Fin 8),
      mag (yOf V c (row1 t r) (col1 t j)) ≤ (outsAt1 V c n hn).2 (ix2 s ⟨j.val % 128, Nat.mod_lt _ (by decide)⟩) := by
  have hcol : ∀ (t : Fin cfg1.N) (j : Fin 512),
      cBlk (iblk1 V c 0 t) (iblk1 V c 1 t) (iblk1 V c 2 t) (iblk1 V c 3 t) (ix2 0 j) ≤ allMax (yOf V c) := fun t j => by
    rw [cBlk_apply]
    exact Finset.sup_le fun r _ => mag_le_allMax _ _ _
  have hin : ∀ (t : Fin cfg1.N) (p : Vec Ideal S8x128 .f32) (r : Fin 1024) (j : Fin 512) (s : Fin 8),
      mag (yOf V c (row1 t r) (col1 t j)) ≤ mBlk (cBlk (iblk1 V c 0 t) (iblk1 V c 1 t) (iblk1 V c 2 t) (iblk1 V c 3 t)) p
        (ix2 s ⟨j.val % 128, Nat.mod_lt _ (by decide)⟩) := fun t p r j s => by
    refine le_trans ?_ (col_le_mBlk _ p s j)
    rw [cBlk_apply]
    exact Finset.le_sup (f := fun r : Fin 1024 => mag (yOf V c (row1 t r) (col1 t j))) (Finset.mem_univ r)
  intro n
  induction n with
  | zero =>
    intro hn
    have e := after_m_first V c ⟨0, hn⟩ rfl
    dsimp only at e
    rw [e]
    refine ⟨fun s l => ⟨le_mBlk _ (fun _ => 0) s l, mBlk_le _ (fun _ => 0) _ s l ?_ (hcol _)⟩, fun t ht r j s => ?_⟩
    · exact le_trans (mag_nonneg _) (mag_le_allMax (yOf V c) (row1 ⟨0, hn⟩ 0) (col1 ⟨0, hn⟩ 0))
    · obtain rfl : t = ⟨0, hn⟩ := Fin.ext (by show t.val = 0; omega)
      exact hin _ _ r j s
  | succ n ih =>
    intro hn
    have hlt : n + 1 < 420 := lt_of_lt_of_eq hn Gen.N_1
    obtain ⟨ih1, ih2⟩ := ih (Nat.lt_of_succ_lt hn)
    have e := after_m_next V c ⟨n + 1, hn⟩ (by show ¬ (n + 1) % 420 = 0; omega)
    dsimp only at e
    rw [e]
    refine ⟨fun s l => ⟨le_trans (ih1 s l).1 (le_mBlk _ _ s l), mBlk_le _ _ _ s l (ih1 s l).2 (hcol _)⟩, fun t ht r j s => ?_⟩
    rcases Nat.lt_or_ge n t.val with h | h
    · obtain rfl : t = ⟨n + 1, hn⟩ := Fin.ext (by show t.val = n + 1; omega)
      exact hin _ _ r j s
    · exact le_trans (ih2 t h r j s) (le_mBlk _ _ s _)

/-- The last point is the one that writes the running maximum back, whole. -/
theorem whole1_5 : ∀ t : Fin cfg1.N, t.val = 419 → (cfg1.win 5).WholeAt t := fun t ht => by
  obtain rfl : t = ⟨419, lt_of_lt_of_eq (by decide) Gen.N_1.symm⟩ := Fin.ext ht
  decide +kernel

/-- The array of running maxima holds what the last point left. -/
theorem m_eq (c : Dev nD) (t : Fin cfg1.N) (ht : t.val = 419) :
    (dat1 V c).arrAt 5 cfg1.N = (outsAt1 V c t.val t.isLt).2 := by
  refine (dat1 V c).arrAt_eq_of_after_last 5 t (whole1_5 t ht) _ fun j => ?_
  rw [after1_5]
  generalize (outsAt1 V c t.val t.isLt).2 = f
  exact (cast_eq _ _).trans (congrArg f (funext fun a => Fin.ext rfl))

/-- The largest of the running maxima after a last point is the largest magnitude in `y`. -/
theorem cellMax_last (c : Dev nD) (t : Fin cfg1.N) (ht : t.val = 419) :
    cellMax (outsAt1 V c t.val t.isLt).2 = allMax (yOf V c) := by
  obtain ⟨h1, h2⟩ := running V c t.val t.isLt
  generalize (outsAt1 V c t.val t.isLt).2 = f at h1 h2 ⊢
  apply le_antisymm
  · refine Finset.sup_le fun p _ => ?_
    exact (h1 p.1 p.2).2
  · refine Finset.sup_le fun p _ => ?_
    obtain ⟨i, j⟩ := p
    have hi := i.isLt
    have hj := j.isLt
    have ht : j.val / 512 * 12 + i.val / 1024 < 420 := by omega
    have h := h2 ⟨j.val / 512 * 12 + i.val / 1024, lt_of_lt_of_eq ht Gen.N_1.symm⟩ (by show j.val / 512 * 12 + i.val / 1024 ≤ t.val; omega)
      ⟨i.val % 1024, Nat.mod_lt _ (by decide)⟩ ⟨j.val % 512, Nat.mod_lt _ (by decide)⟩ 0
    have er : row1 ⟨j.val / 512 * 12 + i.val / 1024, lt_of_lt_of_eq ht Gen.N_1.symm⟩ ⟨i.val % 1024, Nat.mod_lt _ (by decide)⟩ = i :=
      Fin.ext (by show (j.val / 512 * 12 + i.val / 1024) % 12 * 1024 + i.val % 1024 = i.val; omega)
    have ec : col1 ⟨j.val / 512 * 12 + i.val / 1024, lt_of_lt_of_eq ht Gen.N_1.symm⟩ ⟨j.val % 512, Nat.mod_lt _ (by decide)⟩ = j :=
      Fin.ext (by show (j.val / 512 * 12 + i.val / 1024) / 12 * 512 + j.val % 512 = j.val; omega)
    rw [er, ec] at h
    exact le_trans h (le_cellMax f 0 _)

/-- The largest of the running maxima the second call leaves is the largest magnitude in `y`. -/
theorem ymax_eq (c : Dev nD) :
    cellMax ((dat1 V c).arrAt 5 cfg1.N : S8x128.Idx → EReal) = allMax (yOf V c) := by
  obtain ⟨t, ht⟩ : ∃ t : Fin cfg1.N, t.val = 419 := ⟨⟨419, lt_of_lt_of_eq (by decide) Gen.N_1.symm⟩, rfl⟩
  rw [m_eq V c t ht, cellMax_last V c t ht]

end Arrays

end Cert.KernelIdeal.Val

end
-- ==== Proof.YQuant.lean ====
/-
  The kernel's third call, which quantizes `y` by one scale: its blocks at coordinates, and the three arrays it leaves.
-/
module

public import proofs.«01_k».proof.Proof.Quant

@[expose] public section

set_option maxRecDepth 16384

noncomputable section

namespace Cert.KernelIdeal.Val

open Idealize.ShloMosaic hiding ix1 ix2 ix3 truncf_apply mulf_apply maximumf_apply minimumf_apply
open Idealize.ShloMosaic.TcCoe Idealize.ShloMosaic.ValueIdx
open Idealize.ShloMosaic.Pipeline (Dat)
open Cert.KernelIdeal Cert.KernelIdeal.Gen Cert.Spec

/-- The one element of a vector, read through two leading unit axes. -/
theorem extract_one (w : FVec Ideal S1 .f32) :
    extractAt ![0, 0, 0] (shapeCast S1x1x1 w shapeCasts_S1_S1x1x1) inpos_S1x1x1_p0_0_0 = w (ix1 (0 : Fin 1)) := by
  unfold extractAt
  refine shapeCast_apply _ _ _ _ ?_
  rw [Shape.rowMajor_val_one, Shape.rowMajor_val_three]
  rfl

/-- The third call's maximum is the largest of the running maxima. -/
theorem k2_pay2_apply (v : Vec Ideal S8x128 .f32) (i : S1x1.Idx) : k2_pay2 (F := Ideal) v i = cellMax v := by
  unfold k2_pay2
  rw [shapeCast_self, show ∀ x : EReal, broadcast S1x1 x i = x from fun _ => rfl, extract_one]
  exact max_all (m := 8) (d := 128) v shapeCasts_S8x128_S1x8x128 reduces_S1x8x128_S1 (.inl rfl) rfl (ix1 (0 : Fin 1))

/-- The block of maxima holds it everywhere. -/
theorem k2_pay1_apply (v : Vec Ideal S8x128 .f32) (j : S8x128.Idx) :
    k2_pay1 (F := Ideal) (k2_pay2 v) j = cellMax v := by
  obtain ⟨r, k, rfl⟩ := exists_ix2 (a := 8) (b := 128) j
  unfold k2_pay1
  rw [shapeCast_self, broadcastTo_11_ab_apply, k2_pay2_apply]

/-- The quotient of the third call, in every lane. -/
theorem k2_pay3_apply (v : Vec Ideal S8x128 .f32) (j : S8x128.Idx) :
    k2_pay3 (F := Ideal) v j = quot (cellMax v) := by
  obtain ⟨r, k, rfl⟩ := exists_ix2 (a := 8) (b := 128) j
  unfold k2_pay3
  rw [shapeCast_self, mulf_apply, broadcastTo_11_ab_apply, k2_pay2_apply]
  rfl

/-- The word of the search, in every lane, before its last step. -/
theorem k2_seven (v : Vec Ideal S8x128 .f32) :
    select (k2_pay6 (F := Ideal) v) (k2_pay5 (F := Ideal) v) (k2_pay4 (F := Ideal) v) = vseven (k2_pay3 v) := by
  unfold k2_pay6 k2_pay5 k2_pay4
  rfl

/-- The third call's exponent, from the word before the last step. -/
theorem k2_pay7_eq (t : FVec Ideal S8x128 .f32) (a b : IVec S8x128 32) (p : IVec S8x128 1) :
    k2_pay7 (F := Ideal) t a b p = vexpo t (vstep t 8388608#32 (select p b a)) := by
  unfold k2_pay7
  rfl

/-- The third call's exponent is the searched exponent of its quotient. -/
theorem k2_expo (v : Vec Ideal S8x128 .f32) (j : S8x128.Idx) :
    k2_pay7 (F := Ideal) (k2_pay3 v) (k2_pay4 (F := Ideal) v) (k2_pay5 (F := Ideal) v) (k2_pay6 (F := Ideal) v) j
      = Scale.expo (Scale.word (quot (cellMax v))) := by
  rw [k2_pay7_eq, k2_seven, vexpo_search, k2_pay3_apply]

/-- The scale block of the third call. -/
theorem k2_pay8_apply (v : Vec Ideal S8x128 .f32) (j : S8x128.Idx) :
    k2_pay8 (F := Ideal) (k2_pay3 v) (k2_pay4 (F := Ideal) v) (k2_pay5 (F := Ideal) v) (k2_pay6 (F := Ideal) v) j
      = Scale.refScale (quot (cellMax v)) := by
  rw [← Scale.kScale_eq]
  unfold Scale.kScale
  rw [← k2_expo v j]
  rfl

/-- The code block of the third call. -/
theorem k2_pay9_apply (v : Vec Ideal S8x128 .f32) (y : Vec Ideal S1024x2560 .f32) (r : Fin 1024) (k : Fin 2560) :
    k2_pay9 (F := Ideal) (k2_pay3 v) (k2_pay4 (F := Ideal) v) (k2_pay5 (F := Ideal) v) (k2_pay6 (F := Ideal) v) y (ix2 r k)
      = code (y (ix2 r k)) (Scale.refInv (quot (cellMax v))) := by
  rw [← Scale.kInv_eq]
  unfold Scale.kInv
  rw [← k2_expo v (ix2 0 0)]
  unfold k2_pay9
  rw [shapeCast_self, truncf_apply, minimumf_apply, maximumf_apply, mulf_apply, broadcastTo_11_ab_apply,
    extractStridedSlice_apply (k := ix2 (0 : Fin 8) (0 : Fin 128))]
  · rfl
  · intro a
    match a with
    | ⟨0, _⟩ => rfl
    | ⟨1, _⟩ => rfl

section Arrays

variable (V : (c : Dev nD) → (b : Ref sig .tc) → Buf (Elt Ideal) ((c : Thread nD τ).loc b))

/-- Where the block of `y` at a point starts. -/
theorem idx2_0 : ∀ t : Fin cfg2.N, win2_0.index t = ![t.val / 7, t.val % 7] := (by decide +kernel : ∀ t : Fin grid2.N, _)
/-- The running maxima are one block. -/
theorem idx2_1 : ∀ t : Fin cfg2.N, win2_1.index t = ![0, 0] := (by decide +kernel : ∀ t : Fin grid2.N, _)
/-- Where the block of codes goes. -/
theorem idx2_2 : ∀ t : Fin cfg2.N, win2_2.index t = ![t.val / 7, t.val % 7] := (by decide +kernel : ∀ t : Fin grid2.N, _)

/-- The third call has 84 points. -/
theorem lt2 (t : Fin cfg2.N) : t.val < 84 := lt_of_lt_of_eq t.isLt Gen.N_2

/-- Row `r` of the point's block in the array. -/
def row2 (t : Fin cfg2.N) (r : Fin 1024) : Fin 12288 := ⟨t.val / 7 * 1024 + r.val, by have := lt2 t; have := r.isLt; omega⟩

/-- Column `j` of the point's block in the array. -/
def col2 (t : Fin cfg2.N) (j : Fin 2560) : Fin 17920 := ⟨t.val % 7 * 2560 + j.val, by have := j.isLt; omega⟩

/-- The block of `y` at a point, at coordinates. -/
theorem iblk2_0_apply (c : Dev nD) (t : Fin cfg2.N) (r : Fin 1024) (k : Fin 2560) :
    iblk2 V c 0 t (ix2 r k) = (V c main_v3_0 : S12288x17920.Idx → EReal) (ix2 (row2 t r) (col2 t k)) := by
  blk_ext [iblk2, idx2_0, row2, col2]

/-- The block of running maxima is the whole array. -/
theorem iblk2_1_eq (c : Dev nD) (t : Fin cfg2.N) :
    (iblk2 V c 1 t : S8x128.Idx → EReal) = (V c main_v3_1 : S8x128.Idx → EReal) := by
  funext y
  obtain ⟨r, k, rfl⟩ := exists_ix2 (a := 8) (b := 128) y
  blk_ext [iblk2, idx2_1]

/-- The third call's codes. -/
theorem ycodes_eq (c : Dev nD) :
    (dat2 V c).arrAt 2 cfg2.N = fun j : S12288x17920.Idx =>
      code ((V c main_v3_0 : S12288x17920.Idx → EReal) j) (Scale.refInv (quot (cellMax (V c main_v3_1)))) := by
  refine (dat2 V c).arrAt_eq_of_covers 2 _ (by decide +kernel) fun t hf y => ?_
  blk_simp
  rw [after2_2]
  frame_out
  obtain ⟨r, k, rfl⟩ := exists_ix2 (a := 1024) (b := 2560) y
  unfold k2_pay10 k2_pay11 k2_pay12 k2_pay13
  rw [View.ld_unit_lit _ _ (by decide), k2_pay9_apply, iblk2_1_eq, iblk2_0_apply]
  refine congrArg₂ code (congrArg (V c main_v3_0 : S12288x17920.Idx → EReal) ?_) rfl
  funext a
  match a with
  | ⟨0, _⟩ => apply Fin.ext; blk_simp [idx2_2]; rfl
  | ⟨1, _⟩ => apply Fin.ext; blk_simp [idx2_2]; rfl

/-- The third call's scale, the same in every cell. -/
theorem yscale_eq (c : Dev nD) :
    (dat2 V c).arrAt 3 cfg2.N = fun _ : S8x128.Idx => Scale.refScale (quot (cellMax (V c main_v3_1))) := by
  refine (dat2 V c).arrAt_eq_of_after_last 3 ⟨83, lt_of_lt_of_eq (by decide) Gen.N_2.symm⟩ (by decide +kernel) _ fun j => ?_
  rw [after2_3]
  refine (cast_eq _ _).trans ?_
  frame_out
  unfold k2_pay10 k2_pay11 k2_pay12 k2_pay13
  rw [View.ld_unit_lit _ _ (by decide), k2_pay8_apply, iblk2_1_eq]

/-- The third call's maximum, the same in every cell. -/
theorem yamax_eq (c : Dev nD) :
    (dat2 V c).arrAt 4 cfg2.N = fun _ : S8x128.Idx => cellMax (V c main_v3_1) := by
  refine (dat2 V c).arrAt_eq_of_after_last 4 ⟨83, lt_of_lt_of_eq (by decide) Gen.N_2.symm⟩ (by decide +kernel) _ fun j => ?_
  rw [after2_4]
  refine (cast_eq _ _).trans ?_
  frame_out
  rw [k2_pay1_apply, iblk2_1_eq]

end Arrays

end Cert.KernelIdeal.Val

end
-- ==== Proof.KRun.lean ====
/-
  The kernel's run: every buffer at its end, and the five results as functions of the arguments.
-/
module

public import proofs.«01_k».proof.Proof.Gated
public import proofs.«01_k».proof.Proof.YQuant

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- Every execution of the kernel ends with each buffer outside the calls' scratch at the last boundary's contents. -/
theorem run : θ_run defs (onTc (τ := τ) (main (F := F))) ⟨m, fun _ => 0, ρ⟩
    (fun r => ∀ (c : Dev nD), ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.KernelIdeal.Gen

namespace Cert.KernelIdeal.Val

open Idealize.ShloMosaic hiding ix1 ix2 ix3 truncf_apply mulf_apply maximumf_apply minimumf_apply
open Idealize.ShloMosaic.TcCoe Idealize.ShloMosaic.ValueIdx
open Cert.KernelIdeal Cert.KernelIdeal.Gen Cert.Spec

variable (m : (ℓ : Loc nD τ sig) → Buf (Elt Ideal) ℓ) (ρ : Dev nD → PrngReg) (c : Dev nD)

/-- The rows of the argument `x`. -/
def kx : Fin 12288 → Fin 6656 → EReal :=
  co (shapeCast S12288x6656 (m ((c : Thread nD τ).loc main_arg0) : S3x4096x6656.Idx → EReal) shapeCasts_S3x4096x6656_S12288x6656)

/-- `y` as a function of the arguments. -/
def ky : Fin 12288 → Fin 17920 → EReal :=
  yOfX (kx m c) (fun k j => (m ((c : Thread nD τ).loc main_arg1) : S6656x2x17920.Idx → EReal) (ix3 k 0 j))
    (fun k j => (m ((c : Thread nD τ).loc main_arg1) : S6656x2x17920.Idx → EReal) (ix3 k 1 j))
    (fun j => (m ((c : Thread nD τ).loc main_arg2) : S2x17920.Idx → EReal) (ix2 0 j))
    (fun j => (m ((c : Thread nD τ).loc main_arg2) : S2x17920.Idx → EReal) (ix2 1 j))

/-- The first call reads the rows of `x`. -/
theorem V1_v0 : co (V1 m ρ c main_v0 : S12288x6656.Idx → EReal) = kx m c := by
  unfold kx
  refine congrArg co ?_
  show StableHlo.after hostOps0 (W0 m ρ c) (Proc.devRef .tc main_v0) = _
  after_results
  rfl

/-- After the first call its code array holds the codes of `x`. -/
theorem V2_codes : (V2 m ρ c main_v1_0 : S12288x6656.Idx → EReal) = fun j => xCode (kx m c) (j 0) (j 1) := by
  rw [← V1_v0 m ρ c]
  exact (hF0 m ρ c 1).symm.trans (codes_eq (V1 m ρ) c)

/-- After the first call its scale array holds the scales of `x`. -/
theorem V2_scales : (V2 m ρ c main_v1_1 : S12288x128.Idx → EReal) = fun j => xScale (kx m c) (j 0) := by
  rw [← V1_v0 m ρ c]
  exact (hF0 m ρ c 2).symm.trans (scales_eq (V1 m ρ) c)

/-- The second call reads the codes of `x`. -/
theorem V3_codes : (V3 m ρ c main_v1_0 : S12288x6656.Idx → EReal) = fun j => xCode (kx m c) (j 0) (j 1) :=
  (W3_of m ρ c main_v1_0 (by decide)).trans (V2_codes m ρ c)

/-- The second call reads the scales of `x`. -/
theorem V3_scales : (V3 m ρ c main_v1_1 : S12288x128.Idx → EReal) = fun j => xScale (kx m c) (j 0) :=
  (W3_of m ρ c main_v1_1 (by decide)).trans (V2_scales m ρ c)

/-- The second call reads the weights with the branch axis first. -/
theorem V3_w (g : Fin 2) (k : Fin 6656) (j : Fin 17920) : (V3 m ρ c main_v2 : S2x6656x17920.Idx → EReal) (ix3 g k j)
    = (m ((c : Thread nD τ).loc main_arg1) : S6656x2x17920.Idx → EReal) (ix3 k g j) := by
  have e : (V3 m ρ c main_v2 : S2x6656x17920.Idx → EReal)
      = transpose S2x6656x17920 [1, 0, 2] (m ((c : Thread nD τ).loc main_arg1) : S6656x2x17920.Idx → EReal)
          transposes_S6656x2x17920_S2x6656x17920_1_0_2 := by
    show StableHlo.after hostOps1 (W2 m ρ c) (Proc.devRef .tc main_v2) = _
    after_results
    exact congrArg (transpose S2x6656x17920 [1, 0, 2] · transposes_S6656x2x17920_S2x6656x17920_1_0_2) (W2_args m ρ c main_arg1 (by decide))
  rw [e]
  refine transpose_apply _ _ _ _ (ix3 k g j) fun b => ?_
  match b with
  | ⟨0, _⟩ => rfl
  | ⟨1, _⟩ => rfl
  | ⟨2, _⟩ => rfl

/-- The second call reads the column scales as they were given. -/
theorem V3_arg2 : (V3 m ρ c main_arg2 : S2x17920.Idx → EReal) = m ((c : Thread nD τ).loc main_arg2) :=
  W3_args m ρ c main_arg2 (by decide)

/-- The gated product the second call computes is `y`. -/
theorem yOf_eq : yOf (V3 m ρ) c = ky m c := by
  unfold yOf ky yOfX
  rw [V3_codes, V3_scales, V3_arg2, funext fun k => funext fun j => V3_w m ρ c 0 k j, funext fun k => funext fun j => V3_w m ρ c 1 k j]
  rfl

/-- After the second call its first array holds `y`. -/
theorem V4_y : (V4 m ρ c main_v3_0 : S12288x17920.Idx → EReal) = fun j => ky m c (j 0) (j 1) := by
  rw [← yOf_eq m ρ c]
  exact (hF1 m ρ c 4).symm.trans (y_eq (V3 m ρ) c)

/-- After the second call the largest of its running maxima is the largest magnitude in `y`. -/
theorem V4_max : cellMax (V4 m ρ c main_v3_1 : S8x128.Idx → EReal) = allMax (ky m c) := by
  rw [← yOf_eq m ρ c]
  exact (congrArg cellMax (hF1 m ρ c 5).symm).trans (ymax_eq (V3 m ρ) c)

/-- After the third call its code array holds the codes of `y`. -/
theorem V5_codes : (V5 m ρ c main_v4_0 : S12288x17920.Idx → EReal) = fun j => yCode (ky m c) (j 0) (j 1) := by
  refine (hF2 m ρ c 2).symm.trans ((ycodes_eq (V4 m ρ) c).trans ?_)
  rw [V4_y, V4_max]
  rfl

/-- After the third call its scale array holds the scale of `y` everywhere. -/
theorem V5_scale : (V5 m ρ c main_v4_1 : S8x128.Idx → EReal) = fun _ => yScale (ky m c) := by
  refine (hF2 m ρ c 3).symm.trans ((yscale_eq (V4 m ρ) c).trans ?_)
  rw [V4_max]
  rfl

/-- After the third call its last array holds the largest magnitude in `y` everywhere. -/
theorem V5_max : (V5 m ρ c main_v4_2 : S8x128.Idx → EReal) = fun _ => allMax (ky m c) := by
  refine (hF2 m ρ c 4).symm.trans ((yamax_eq (V4 m ρ) c).trans ?_)
  rw [V4_max]
  rfl

/-- The codes of `x` are still there after the third call. -/
theorem V5_xcodes : (V5 m ρ c main_v1_0 : S12288x6656.Idx → EReal) = fun j => xCode (kx m c) (j 0) (j 1) :=
  (W5_of m ρ c main_v1_0 (by decide)).trans ((W4_of m ρ c main_v1_0 (by decide)).trans (V3_codes m ρ c))

/-- The scales of `x` are still there after the third call. -/
theorem V5_xscales : (V5 m ρ c main_v1_1 : S12288x128.Idx → EReal) = fun j => xScale (kx m c) (j 0) :=
  (W5_of m ρ c main_v1_1 (by decide)).trans ((W4_of m ρ c main_v1_1 (by decide)).trans (V3_scales m ρ c))

/-! ### The results -/

/-- The codes of `y`. -/
theorem W6_v5 : (W6 m ρ c (Proc.devRef .tc main_v5) : S3x4096x17920.Idx → EReal)
    = shapeCast S3x4096x17920 (fun j : S12288x17920.Idx => yCode (ky m c) (j 0) (j 1)) shapeCasts_S12288x17920_S3x4096x17920 := by
  show StableHlo.after hostOps3 (W5 m ρ c) (Proc.devRef .tc main_v5) = _
  after_results
  exact congrArg (shapeCast S3x4096x17920 · shapeCasts_S12288x17920_S3x4096x17920) (V5_codes m ρ c)

/-- The scale of `y`. -/
theorem W6_v7 : (W6 m ρ c (Proc.devRef .tc main_v7) : S_.Idx → EReal) = fun _ => yScale (ky m c) := by
  show StableHlo.after hostOps3 (W5 m ρ c) (Proc.devRef .tc main_v7) = _
  after_results
  exact congrArg (fun v : S8x128.Idx → EReal => shapeCast S_ (extractStridedSlice S1x1 ![0, 0] v slices_S8x128_S1x1_0_0) shapeCasts_S1x1_S_)
    (V5_scale m ρ c)

/-- The largest magnitude in `y`. -/
theorem W6_v9 : (W6 m ρ c (Proc.devRef .tc main_v9) : S_.Idx → EReal) = fun _ => allMax (ky m c) := by
  show StableHlo.after hostOps3 (W5 m ρ c) (Proc.devRef .tc main_v9) = _
  after_results
  exact congrArg (fun v : S8x128.Idx → EReal => shapeCast S_ (extractStridedSlice S1x1 ![0, 0] v slices_S8x128_S1x1_0_0) shapeCasts_S1x1_S_)
    (V5_max m ρ c)

/-- The codes of `x`. -/
theorem W6_v10 : (W6 m ρ c (Proc.devRef .tc main_v10) : S3x4096x6656.Idx → EReal)
    = shapeCast S3x4096x6656 (fun j : S12288x6656.Idx => xCode (kx m c) (j 0) (j 1)) shapeCasts_S12288x6656_S3x4096x6656 := by
  show StableHlo.after hostOps3 (W5 m ρ c) (Proc.devRef .tc main_v10) = _
  after_results
  exact congrArg (shapeCast S3x4096x6656 · shapeCasts_S12288x6656_S3x4096x6656) (V5_xcodes m ρ c)

/-- The scales of `x`. -/
theorem W6_v13 : (W6 m ρ c (Proc.devRef .tc main_v13) : S3x4096.Idx → EReal)
    = shapeCast S3x4096 (fun j : S12288.Idx => xScale (kx m c) (j 0)) shapeCasts_S12288_S3x4096 := by
  show StableHlo.after hostOps3 (W5 m ρ c) (Proc.devRef .tc main_v13) = _
  after_results
  refine congrArg (shapeCast S3x4096 · shapeCasts_S12288_S3x4096) ?_
  refine (congrArg (fun v : S12288x128.Idx → EReal => shapeCast S12288 (extractStridedSlice S12288x1 ![0, 0] v slices_S12288x128_S12288x1_0_0)
    shapeCasts_S12288x1_S12288) (V5_xscales m ρ c)).trans ?_
  funext j
  refine (shapeCast_apply _ _ j (ix2 (j 0) (0 : Fin 1)) ?_).trans ?_
  · rw [Shape.rowMajor_val_one, Shape.rowMajor_val_two]
    show (j 0).val * 1 + 0 = (j 0).val
    omega
  · refine (extractStridedSlice_apply (k := ix2 (j 0) (0 : Fin 128)) _ _ _ _ fun a => ?_).trans rfl
    match a with
    | ⟨0, _⟩ => show (j 0).val = 0 + (j 0).val; omega
    | ⟨1, _⟩ => rfl

end Cert.KernelIdeal.Val

end
-- ==== Proof.RefPay.lean ====
/-
  What the reference's one call computes from the blocks it reads, at coordinates.
-/
module

public import proofs.«01_k».proof.Proof.Spec
public import proofs.«01_k».proof.Proof.Gen.ReferenceIdeal.Frame
public import Idealize.ShloMosaic.Lib.Pipeline.ValueKit

@[expose] public section

set_option maxRecDepth 16384

noncomputable section

namespace Cert.ReferenceIdeal.Val

open Idealize.ShloMosaic hiding ix1 ix2 ix3 truncf_apply mulf_apply maximumf_apply minimumf_apply
open Idealize.ShloMosaic.TcCoe Idealize.ShloMosaic.ValueIdx
open Idealize.ShloMosaic.Pipeline (Dat)
open Cert.ReferenceIdeal Cert.ReferenceIdeal.Gen Cert.Spec

/-! ### The payloads at coordinates -/

/-- The reference's exponent in every lane. -/
def vE {s : Shape} (t : FVec Ideal s .f32) : FVec Ideal s .f32 :=
  select (andi (cmpf .oge t (broadcast s (Scalar.ofBits .f32 0x00800000#32)))
      (cmpf .olt t (broadcast s (Scalar.ofBits .f32 0x7B800000#32))))
    (addf (floor (divf (log t) (log (broadcast s (Scalar.ofBits .f32 0x40000000#32)))))
      (broadcast s (Scalar.ofBits .f32 0x3F800000#32)))
    (broadcast s (Scalar.ofBits .f32 0x00000000#32))

/-- It is the exponent of each lane's quotient. -/
theorem vE_apply {s : Shape} (t : FVec Ideal s .f32) (j : s.Idx) : vE t j = Scale.refE (t j) := rfl

/-- A power of two in a lane. -/
theorem exp2_at {s : Shape} (x : FVec Ideal s .f32) (j : s.Idx) : exp2 x j = Ideal.exp2 (x j) := rfl

/-- A power of two of the negated exponent in a lane. -/
theorem exp2_neg_at {s : Shape} (x : FVec Ideal s .f32) (j : s.Idx) :
    exp2 (subf (broadcast s (Scalar.ofBits .f32 0x00000000#32)) x) j = Ideal.exp2 (Ideal.ofBits .f32 0x00000000#32 - x j) := rfl

/-- The clipped product is a code. -/
theorem code_at (x i : EReal) : FloatOps.minimumf (F := Ideal) (φ := .f32) (Scalar.ofBits .f32 0x43E00000#32)
    (FloatOps.maximumf (F := Ideal) (φ := .f32) (Scalar.ofBits .f32 0xC3E00000#32) (x * i)) = code x i := rfl

/-- The quotient of each row, as a column. -/
def colQuot (v : Vec Ideal S12288x6656 .bf16) : FVec Ideal S12288x1 .f32 :=
  mulf (shapeCast S12288x1 (multiReduction .maximumf [1] S12288 (absf (k0_pay1 v)) 0xFF800000#32
    reduces_S12288x6656_S12288 (.inl rfl) rfl) shapeCasts_S12288_S12288x1) (broadcast S12288x1 (Scalar.ofBits .f32 0x3B124925#32))

/-- The column holds each row's quotient. -/
theorem colQuot_apply (v : Vec Ideal S12288x6656 .bf16) (r : Fin 12288) :
    colQuot v (ix2 r (0 : Fin 1)) = quot (rowMax (co v) r) := by
  unfold colQuot k0_pay1
  rw [shapeCast_self, mulf_apply, shapeCast_a_a1_apply]
  exact congrArg (· * Ideal.ofBits .f32 0x3B124925#32) (max_axis1 (m := 12288) (d := 6656) _ _ _ _ r)

/-- The reference's exponents of `x` are those of the column of quotients. -/
theorem pay2_eq (v : Vec Ideal S12288x6656 .bf16) : k0_pay2 (F := Ideal) v = vE (colQuot v) := by
  unfold k0_pay2
  rfl

/-- The reference's exponent of a row of `x`. -/
theorem pay2_apply (v : Vec Ideal S12288x6656 .bf16) (r : Fin 12288) :
    k0_pay2 (F := Ideal) v (ix2 r (0 : Fin 1)) = Scale.refE (quot (rowMax (co v) r)) := by
  rw [pay2_eq, vE_apply, colQuot_apply]

/-- The codes of `x`. -/
theorem pay3_apply (v : Vec Ideal S12288x6656 .bf16) (r : Fin 12288) (k : Fin 6656) :
    k0_pay3 (F := Ideal) v (ix2 r k) = xCode (co v) r k := by
  unfold k0_pay3 k0_pay1
  rw [shapeCast_self, truncf_apply, minimumf_apply, maximumf_apply, mulf_apply, broadcastTo_a1_ab_apply, exp2_neg_at, pay2_apply]
  exact code_at _ _

/-- The scales of `x`. -/
theorem pay4_apply (v : Vec Ideal S12288x6656 .bf16) (r : Fin 12288) :
    k0_pay4 (F := Ideal) v (ix2 r (0 : Fin 1)) = xScale (co v) r := by
  unfold k0_pay4
  exact (exp2_at (k0_pay2 v) (ix2 r (0 : Fin 1))).trans (congrArg Ideal.exp2 (pay2_apply v r))

/-- One projection: product, row scale, column scale. -/
theorem proj_apply (cd : FVec Ideal S12288x6656 .fp8e4m3) (s : FVec Ideal S12288x1 .f32) (w : Vec Ideal S6656x17920 .fp8e4m3)
    (ws : Vec Ideal S1x17920 .f32) (r : Fin 12288) (j : Fin 17920) :
    mulf (mulf (matmul (F := Ideal) dot_S12288x6656_S6656x17920_S12288x17920_1_0_0_1_n_n none cd
        (shapeCast S6656x17920 w shapeCasts_S6656x17920_S6656x17920 : FVec Ideal S6656x17920 .fp8e4m3)
        (constant S12288x17920 .f32 0x00000000#32))
        (broadcastTo S12288x17920 s broadcasts_S12288x1_S12288x17920))
      (broadcastTo S12288x17920 ws broadcasts_S1x17920_S12288x17920 : FVec Ideal S12288x17920 .f32) (ix2 r j)
      = proj (co cd) (fun r => s (ix2 r 0)) (co w) (fun j => ws (ix2 0 j)) r j := by
  rw [mulf_apply, mulf_apply, shapeCast_self, broadcastTo_a1_ab_apply, broadcastTo_1b_ab_apply]
  unfold proj
  refine congrArg (· * s (ix2 r 0) * ws (ix2 0 j)) ?_
  exact matmul_zero_apply (m := 12288) (d := 6656) (f := 17920) none _ _ r j

/-- The gate projection at an element. -/
theorem pay5_apply (v : Vec Ideal S12288x6656 .bf16) (w : Vec Ideal S6656x17920 .fp8e4m3) (ws : Vec Ideal S1x17920 .f32)
    (r : Fin 12288) (j : Fin 17920) :
    k0_pay5 (F := Ideal) v w ws (ix2 r j) = proj (xCode (co v)) (xScale (co v)) (co w) (fun j => ws (ix2 0 j)) r j := by
  unfold k0_pay5
  refine (proj_apply (k0_pay3 v) (k0_pay4 v) w ws r j).trans ?_
  rw [show co (k0_pay3 (F := Ideal) v : S12288x6656.Idx → EReal) = xCode (co v) from funext fun r => funext fun k => pay3_apply v r k,
    show (fun r => (k0_pay4 (F := Ideal) v : S12288x1.Idx → EReal) (ix2 r 0)) = xScale (co v) from funext fun r => pay4_apply v r]

section Y

variable (v : Vec Ideal S12288x6656 .bf16) (w1 w2 : Vec Ideal S6656x17920 .fp8e4m3) (s1 s2 : Vec Ideal S1x17920 .f32)

/-- `y` from the blocks the call reads. -/
def blkY : Fin 12288 → Fin 17920 → EReal :=
  yOfX (co v) (co w1) (co w2) (fun j => s1 (ix2 0 j)) (fun j => s2 (ix2 0 j))

/-- The gated product at an element is `y`. -/
theorem pay6_apply (r : Fin 12288) (j : Fin 17920) :
    k0_pay6 (F := Ideal) (k0_pay3 v) (k0_pay4 v) (k0_pay5 v w1 s1) w2 s2 (ix2 r j) = blkY v w1 w2 s1 s2 r j := by
  unfold blkY yOfX swiglu
  rw [← pay5_apply v w1 s1, ← pay5_apply v w2 s2]
  unfold k0_pay6
  rfl

/-- The largest magnitude of `y`. -/
theorem pay7_apply (i : S1x1.Idx) :
    k0_pay7 (F := Ideal) (k0_pay3 v) (k0_pay4 v) (k0_pay5 v w1 s1) w2 s2 i = allMax (blkY v w1 w2 s1 s2) := by
  unfold k0_pay7
  rw [show ∀ x : EReal, broadcast S1x1 x i = x from fun _ => rfl]
  unfold extractAt
  refine (shapeCast_apply (s := S1) (t := S1x1x1) _ _ _ (ix1 (0 : Fin 1)) ?_).trans ?_
  · rw [Shape.rowMajor_val_one, Shape.rowMajor_val_three]
    rfl
  · refine (max_all (m := 12288) (d := 17920) _ shapeCasts_S12288x17920_S1x12288x17920 reduces_S1x12288x17920_S1 (.inl rfl) rfl
      (ix1 (0 : Fin 1))).trans ?_
    exact Finset.sup_congr rfl fun p _ => congrArg mag (pay6_apply v w1 w2 s1 s2 p.1 p.2)

/-- The reference's exponent of `y` is that of its maximum's quotient. -/
theorem pay8_eq : k0_pay8 (F := Ideal) (k0_pay3 v) (k0_pay4 v) (k0_pay5 v w1 s1) w2 s2
    = vE (mulf (k0_pay7 (k0_pay3 v) (k0_pay4 v) (k0_pay5 v w1 s1) w2 s2) (broadcast S1x1 (Scalar.ofBits .f32 0x3B124925#32))) := by
  unfold k0_pay8
  rfl

/-- The reference's exponent of `y`. -/
theorem pay8_apply (i : S1x1.Idx) :
    k0_pay8 (F := Ideal) (k0_pay3 v) (k0_pay4 v) (k0_pay5 v w1 s1) w2 s2 i = Scale.refE (quot (allMax (blkY v w1 w2 s1 s2))) := by
  rw [pay8_eq, vE_apply, mulf_apply, pay7_apply]
  generalize allMax (blkY v w1 w2 s1 s2) = a
  exact congrArg Scale.refE rfl

/-- The codes of `y`. -/
theorem pay9_apply (r : Fin 12288) (j : Fin 17920) :
    k0_pay9 (F := Ideal) (k0_pay3 v) (k0_pay4 v) (k0_pay5 v w1 s1) w2 s2 (ix2 r j) = yCode (blkY v w1 w2 s1 s2) r j := by
  unfold k0_pay9
  rw [truncf_apply, minimumf_apply, maximumf_apply, mulf_apply, broadcastTo_11_ab_apply, exp2_neg_at, pay8_apply, pay6_apply]
  exact code_at _ _

/-- The scale of `y`. -/
theorem pay10_apply (i : S1x1.Idx) :
    k0_pay10 (F := Ideal) (k0_pay3 v) (k0_pay4 v) (k0_pay5 v w1 s1) w2 s2 i = yScale (blkY v w1 w2 s1 s2) := by
  unfold k0_pay10
  exact (exp2_at _ i).trans (congrArg Ideal.exp2 (pay8_apply v w1 w2 s1 s2 i))

end Y

end Cert.ReferenceIdeal.Val

end
-- ==== Proof.RefValue.lean ====
/-
  The reference's one call: the arrays it leaves, and the five results as functions of the
  arguments.
-/
module

public import proofs.«01_k».proof.Proof.RefPay

@[expose] public section

set_option maxRecDepth 16384

noncomputable section

namespace Cert.ReferenceIdeal.Val

open Idealize.ShloMosaic hiding ix1 ix2 ix3 truncf_apply mulf_apply maximumf_apply minimumf_apply
open Idealize.ShloMosaic.TcCoe Idealize.ShloMosaic.ValueIdx
open Idealize.ShloMosaic.Pipeline (Dat)
open Cert.ReferenceIdeal Cert.ReferenceIdeal.Gen Cert.Spec

/-! ### The blocks and the arrays -/

section Arrays

variable (m : (ℓ : Loc nD τ sig) → Buf (Elt Ideal) ℓ) (c : Dev nD)

/-- Every block of the reference starts at the origin. -/
theorem idx0 : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] := (by decide +kernel : ∀ t : Fin grid0.N, _)

/-- The block of `x` is the whole array. -/
theorem iblk_x (t : Fin cfg0.N) : (iblk m c 0 t : S12288x6656.Idx → EReal) = (V m c main_v0 : S12288x6656.Idx → EReal) := by
  funext y
  obtain ⟨r, k, rfl⟩ := exists_ix2 (a := 12288) (b := 6656) y
  blk_ext [iblk, (idx0 t).1]

/-- The block of gate weights is the whole array. -/
theorem iblk_wg (t : Fin cfg0.N) : (iblk m c 1 t : S6656x17920.Idx → EReal) = (V m c main_v2 : S6656x17920.Idx → EReal) := by
  funext y
  obtain ⟨r, k, rfl⟩ := exists_ix2 (a := 6656) (b := 17920) y
  blk_ext [iblk, (idx0 t).2.1]

/-- The block of the other weights is the whole array. -/
theorem iblk_wu (t : Fin cfg0.N) : (iblk m c 2 t : S6656x17920.Idx → EReal) = (V m c main_v4 : S6656x17920.Idx → EReal) := by
  funext y
  obtain ⟨r, k, rfl⟩ := exists_ix2 (a := 6656) (b := 17920) y
  blk_ext [iblk, (idx0 t).2.2.1]

/-- The block of column scales is the whole array. -/
theorem iblk_ws (t : Fin cfg0.N) : (iblk m c 3 t : S2x17920.Idx → EReal) = (V m c main_arg2 : S2x17920.Idx → EReal) := by
  funext y
  obtain ⟨r, k, rfl⟩ := exists_ix2 (a := 2) (b := 17920) y
  blk_ext [iblk, (idx0 t).2.2.2.1]

/-- The rows of the argument `x`. -/
def rx : Fin 12288 → Fin 6656 → EReal :=
  co (shapeCast S12288x6656 (m ((c : Thread nD τ).loc main_arg0) : S3x4096x6656.Idx → EReal) shapeCasts_S3x4096x6656_S12288x6656)

/-- `y` as a function of the arguments. -/
def ry : Fin 12288 → Fin 17920 → EReal :=
  yOfX (rx m c) (fun k j => (m ((c : Thread nD τ).loc main_arg1) : S6656x2x17920.Idx → EReal) (ix3 k 0 j))
    (fun k j => (m ((c : Thread nD τ).loc main_arg1) : S6656x2x17920.Idx → EReal) (ix3 k 1 j))
    (fun j => (m ((c : Thread nD τ).loc main_arg2) : S2x17920.Idx → EReal) (ix2 0 j))
    (fun j => (m ((c : Thread nD τ).loc main_arg2) : S2x17920.Idx → EReal) (ix2 1 j))

/-- The call reads the rows of `x`. -/
theorem V_x : co (V m c main_v0 : S12288x6656.Idx → EReal) = rx m c := by
  unfold rx
  refine congrArg co ?_
  show StableHlo.after hostOps0 (fun b => m (c, b)) (Proc.devRef .tc main_v0) = _
  after_results
  rfl

/-- A middle coordinate of the weights, cut out and dropped. -/
theorem cut_apply (w : S6656x2x17920.Idx → EReal) (g : Fin 2) (hs : S6656x2x17920.Slices ![0, g.val, 0] S6656x1x17920)
    (hc : S6656x1x17920.ShapeCasts S6656x17920) (k : Fin 6656) (j : Fin 17920) :
    shapeCast S6656x17920 (extractStridedSlice S6656x1x17920 ![0, g.val, 0] w hs) hc (ix2 k j) = w (ix3 k g j) := by
  refine (shapeCast_apply _ _ _ (ix3 k (0 : Fin 1) j) ?_).trans ?_
  · rw [Shape.rowMajor_val_two, Shape.rowMajor_val_three]
    show (k.val * 1 + 0) * 17920 + j.val = k.val * 17920 + j.val
    omega
  · refine extractStridedSlice_apply (k := ix3 k g j) _ _ _ _ fun a => ?_
    match a with
    | ⟨0, _⟩ => show k.val = 0 + k.val; omega
    | ⟨1, _⟩ => rfl
    | ⟨2, _⟩ => show j.val = 0 + j.val; omega

/-- The call reads the gate's weights. -/
theorem V_wg : co (V m c main_v2 : S6656x17920.Idx → EReal)
    = fun k j => (m ((c : Thread nD τ).loc main_arg1) : S6656x2x17920.Idx → EReal) (ix3 k 0 j) := by
  have e : (V m c main_v2 : S6656x17920.Idx → EReal) = shapeCast S6656x17920 (extractStridedSlice S6656x1x17920 ![0, (0 : Fin 2).val, 0]
      (m ((c : Thread nD τ).loc main_arg1) : S6656x2x17920.Idx → EReal) slices_S6656x2x17920_S6656x1x17920_0_0_0)
      shapeCasts_S6656x1x17920_S6656x17920 := by
    show StableHlo.after hostOps0 (fun b => m (c, b)) (Proc.devRef .tc main_v2) = _
    after_results
    rfl
  rw [e]
  funext k j
  exact cut_apply _ 0 _ _ k j

/-- The call reads the other branch's weights. -/
theorem V_wu : co (V m c main_v4 : S6656x17920.Idx → EReal)
    = fun k j => (m ((c : Thread nD τ).loc main_arg1) : S6656x2x17920.Idx → EReal) (ix3 k 1 j) := by
  have e : (V m c main_v4 : S6656x17920.Idx → EReal) = shapeCast S6656x17920 (extractStridedSlice S6656x1x17920 ![0, (1 : Fin 2).val, 0]
      (m ((c : Thread nD τ).loc main_arg1) : S6656x2x17920.Idx → EReal) slices_S6656x2x17920_S6656x1x17920_0_1_0)
      shapeCasts_S6656x1x17920_S6656x17920 := by
    show StableHlo.after hostOps0 (fun b => m (c, b)) (Proc.devRef .tc main_v4) = _
    after_results
    rfl
  rw [e]
  funext k j
  exact cut_apply _ 1 _ _ k j

/-- The row of column scales of the gate, as the call loads it. -/
theorem ld_s0 (v : Vec Ideal S2x17920 .f32) (j : Fin 17920) : View.ld (Val := Elt Ideal) v r0_2 (ix2 0 j) = v (ix2 0 j) :=
  View.ld_unit_apply_of (i := ix2 0 j) _ _ _ _ _ fun a => by
    match a with
    | ⟨0, _⟩ => rfl
    | ⟨1, _⟩ => show j.val = 0 + j.val; omega

/-- The row of column scales of the other projection. -/
theorem ld_s1 (v : Vec Ideal S2x17920 .f32) (j : Fin 17920) : View.ld (Val := Elt Ideal) v r0_3 (ix2 0 j) = v (ix2 1 j) :=
  View.ld_unit_apply_of (i := ix2 1 j) _ _ _ _ _ fun a => by
    match a with
    | ⟨0, _⟩ => rfl
    | ⟨1, _⟩ => show j.val = 0 + j.val; omega

/-- The call loads `x` whole. -/
theorem ld_x (v : Vec Ideal S12288x6656 .bf16) : View.ld (Val := Elt Ideal) v r0_0 = v :=
  View.ld_unit_lit _ _ (by decide)

/-- The call loads the weights whole. -/
theorem ld_w (v : Vec Ideal S6656x17920 .fp8e4m3) : View.ld (Val := Elt Ideal) v r0_1 = v :=
  View.ld_unit_lit _ _ (by decide)

/-- What the call computes from its blocks is `y`. -/
theorem blkY_eq (t : Fin cfg0.N) : blkY (iblk m c 0 t) (iblk m c 1 t) (iblk m c 2 t) (View.ld (iblk m c 3 t) r0_2)
    (View.ld (iblk m c 3 t) r0_3) = ry m c := by
  unfold blkY ry
  rw [iblk_x, iblk_wg, iblk_wu, iblk_ws, V_x, V_wg, V_wu, V_main_arg2,
    funext fun j => ld_s0 _ j, funext fun j => ld_s1 _ j]

/-- The array of codes of `x` the call leaves. -/
theorem codes_eq : (dats m 0 c).arrAt 7 cfg0.N = fun j : S12288x6656.Idx => xCode (rx m c) (j 0) (j 1) := by
  refine (dats m 0 c).arrAt_eq_of_covers 7 _ (by decide +kernel) fun t hf y => ?_
  blk_simp
  rw [after0_7]
  frame_out
  obtain ⟨r, k, rfl⟩ := exists_ix2 (a := 12288) (b := 6656) y
  unfold k0_pay11
  rw [View.ld_unit_lit _ _ (by decide)]
  have e0 : ((View.whole main_v5_3).slice (win0_7.rect t)).emb (ix2 r k) 0 = r := by
    apply Fin.ext; blk_simp [(idx0 t).2.2.2.2.2.2.2.1]; rfl
  have e1 : ((View.whole main_v5_3).slice (win0_7.rect t)).emb (ix2 r k) 1 = k := by
    apply Fin.ext; blk_simp [(idx0 t).2.2.2.2.2.2.2.1]; rfl
  rw [e0, e1, pay3_apply, iblk_x, V_x]

/-- The column of scales of `x` the call leaves. -/
theorem scales_eq : (dats m 0 c).arrAt 8 cfg0.N = fun j : S12288x1.Idx => xScale (rx m c) (j 0) := by
  refine (dats m 0 c).arrAt_eq_of_covers 8 _ (by decide +kernel) fun t hf y => ?_
  blk_simp
  rw [after0_8]
  frame_out
  obtain ⟨r, k, rfl⟩ := exists_ix2 (a := 12288) (b := 1) y
  obtain rfl : k = 0 := Subsingleton.elim _ _
  unfold k0_pay12
  rw [View.ld_unit_lit _ _ (by decide)]
  have e0 : ((View.whole main_v5_4).slice (win0_8.rect t)).emb (ix2 r 0) 0 = r := by
    apply Fin.ext; blk_simp [(idx0 t).2.2.2.2.2.2.2.2]; rfl
  rw [e0, pay4_apply, iblk_x, V_x]

/-- The array of codes of `y` the call leaves. -/
theorem ycodes_eq : (dats m 0 c).arrAt 4 cfg0.N = fun j : S12288x17920.Idx => yCode (ry m c) (j 0) (j 1) := by
  refine (dats m 0 c).arrAt_eq_of_covers 4 _ (by decide +kernel) fun t hf y => ?_
  blk_simp
  rw [after0_4]
  frame_out
  obtain ⟨r, k, rfl⟩ := exists_ix2 (a := 12288) (b := 17920) y
  unfold k0_pay11 k0_pay12 k0_pay13
  have e0 : ((View.whole main_v5_0).slice (win0_4.rect t)).emb (ix2 r k) 0 = r := by
    apply Fin.ext; blk_simp [(idx0 t).2.2.2.2.1]; rfl
  have e1 : ((View.whole main_v5_0).slice (win0_4.rect t)).emb (ix2 r k) 1 = k := by
    apply Fin.ext; blk_simp [(idx0 t).2.2.2.2.1]; rfl
  rw [e0, e1]
  rw [ld_x, ld_w]
  rw [pay9_apply]
  exact congrArg (fun y => yCode y r k) (blkY_eq m c t)

/-- The scale of `y` the call leaves. -/
theorem yscale_eq : (dats m 0 c).arrAt 5 cfg0.N = fun _ : S1x1.Idx => yScale (ry m c) := by
  refine (dats m 0 c).arrAt_eq_of_covers 5 _ (by decide +kernel) fun t hf y => ?_
  blk_simp
  rw [after0_5]
  frame_out
  unfold k0_pay11 k0_pay12 k0_pay13
  rw [ld_x, ld_w]
  rw [pay10_apply]
  exact congrArg yScale (blkY_eq m c t)

/-- The largest magnitude in `y` the call leaves. -/
theorem ymax_eq : (dats m 0 c).arrAt 6 cfg0.N = fun _ : S1x1.Idx => allMax (ry m c) := by
  refine (dats m 0 c).arrAt_eq_of_covers 6 _ (by decide +kernel) fun t hf y => ?_
  blk_simp
  rw [after0_6]
  frame_out
  unfold k0_pay11 k0_pay12 k0_pay13
  rw [ld_x, ld_w]
  rw [pay7_apply]
  exact congrArg allMax (blkY_eq m c t)

/-! ### The results -/

/-- Every buffer after the last host line. -/
abbrev R (b : Ref sig .tc) : Buf (Elt Ideal) ((c : Thread nD τ).loc b) :=
  Pipeline.afterTail₀ cfgs (dats m) 0 (V0 m) [hostOps1] c b

/-- Every buffer as the call leaves it. -/
abbrev X : Valuation τ sig (Elt Ideal) :=
  Pipeline.withArrays (cfgs 0).spec c (V0 m c) fun w => (dats m 0 c).arrAt w (cfgs 0).N

/-- After the call each of its arrays holds what the call left. -/
theorem X_arr (w : Fin cfg0.W) : X m c (Proc.devRef .tc (Pipeline.arrRef spec0 w)) = (dats m 0 c).arrAt w cfg0.N :=
  Pipeline.withArrays_arr _ launch0.win.arr_inj c _ _ w

/-- The codes of `y`. -/
theorem R_v6 : (R m c main_v6 : S3x4096x17920.Idx → EReal)
    = shapeCast S3x4096x17920 (fun j : S12288x17920.Idx => yCode (ry m c) (j 0) (j 1)) shapeCasts_S12288x17920_S3x4096x17920 := by
  show StableHlo.after hostOps1 (X m c) (Proc.devRef .tc main_v6) = _
  after_results
  exact congrArg (shapeCast S3x4096x17920 · shapeCasts_S12288x17920_S3x4096x17920) ((X_arr m c 4).trans (ycodes_eq m c))

/-- The scale of `y`. -/
theorem R_v7 : (R m c main_v7 : S_.Idx → EReal) = fun _ => yScale (ry m c) := by
  show StableHlo.after hostOps1 (X m c) (Proc.devRef .tc main_v7) = _
  after_results
  refine (congrArg (fun v : S1x1.Idx → EReal => shapeCast S_ v shapeCasts_S1x1_S_) ((X_arr m c 5).trans (yscale_eq m c))).trans ?_
  generalize yScale (ry m c) = a
  rfl

/-- The largest magnitude in `y`. -/
theorem R_v8 : (R m c main_v8 : S_.Idx → EReal) = fun _ => allMax (ry m c) := by
  show StableHlo.after hostOps1 (X m c) (Proc.devRef .tc main_v8) = _
  after_results
  refine (congrArg (fun v : S1x1.Idx → EReal => shapeCast S_ v shapeCasts_S1x1_S_) ((X_arr m c 6).trans (ymax_eq m c))).trans ?_
  generalize allMax (ry m c) = a
  rfl

/-- The codes of `x`. -/
theorem R_v9 : (R m c main_v9 : S3x4096x6656.Idx → EReal)
    = shapeCast S3x4096x6656 (fun j : S12288x6656.Idx => xCode (rx m c) (j 0) (j 1)) shapeCasts_S12288x6656_S3x4096x6656 := by
  show StableHlo.after hostOps1 (X m c) (Proc.devRef .tc main_v9) = _
  after_results
  exact congrArg (shapeCast S3x4096x6656 · shapeCasts_S12288x6656_S3x4096x6656) ((X_arr m c 7).trans (codes_eq m c))

/-- The scales of `x`. -/
theorem R_v10 : (R m c main_v10 : S3x4096.Idx → EReal)
    = shapeCast S3x4096 (fun j : S12288x1.Idx => xScale (rx m c) (j 0)) shapeCasts_S12288x1_S3x4096 := by
  show StableHlo.after hostOps1 (X m c) (Proc.devRef .tc main_v10) = _
  after_results
  exact congrArg (shapeCast S3x4096 · shapeCasts_S12288x1_S3x4096) ((X_arr m c 8).trans (scales_eq m c))

end Arrays

end Cert.ReferenceIdeal.Val

end
-- ==== Proof.Algebraic.lean ====
/-
  The value claim: from the same arguments the kernel and the reference leave the same five results.
-/
module

public import proofs.«01_k».proof.Defs
public import proofs.«01_k».proof.Proof.KRun
public import proofs.«01_k».proof.Proof.RefValue
public import proofs.«01_k».proof.Proof.Gen.Kernel
public import proofs.«01_k».proof.Proof.Gen.KernelIdeal
public import proofs.«01_k».proof.Proof.Gen.ReferenceIdeal

@[expose] public section

set_option maxRecDepth 16384

noncomputable section

namespace Cert.Agree

open Idealize.ShloMosaic Idealize.ShloMosaic.TcCoe Idealize.SL.Sem
open Cert.Spec

section Same

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0)
    = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))

include h0 in
/-- The two programs read the same rows of `x`. -/
theorem x_same : Cert.ReferenceIdeal.Val.rx m' c = Cert.KernelIdeal.Val.kx m c :=
  congrArg (fun v : Cert.KernelIdeal.S3x4096x6656.Idx → EReal =>
    co (shapeCast Cert.KernelIdeal.S12288x6656 v Cert.KernelIdeal.Gen.facts.shapeCasts_S3x4096x6656_S12288x6656)) h0

include h0 h1 h2 in
/-- The two programs compute the same `y`. -/
theorem y_same : Cert.ReferenceIdeal.Val.ry m' c = Cert.KernelIdeal.Val.ky m c := by
  unfold Cert.ReferenceIdeal.Val.ry Cert.KernelIdeal.Val.ky
  rw [x_same m m' c h0, h1, h2]

include h0 h1 h2 in
/-- The codes of `y` agree. -/
theorem r0 : Cert.ReferenceIdeal.Val.R m' c Cert.ReferenceIdeal.main_v6
    = Cert.KernelIdeal.Gen.W6 m ρ c (Proc.devRef .tc Cert.KernelIdeal.main_v5) := by
  refine (Cert.ReferenceIdeal.Val.R_v6 m' c).trans (Eq.trans ?_ (Cert.KernelIdeal.Val.W6_v5 m ρ c).symm)
  rw [y_same m m' c h0 h1 h2]

include h0 h1 h2 in
/-- The scale of `y` agrees. -/
theorem r1 : Cert.ReferenceIdeal.Val.R m' c Cert.ReferenceIdeal.main_v7
    = Cert.KernelIdeal.Gen.W6 m ρ c (Proc.devRef .tc Cert.KernelIdeal.main_v7) := by
  refine (Cert.ReferenceIdeal.Val.R_v7 m' c).trans (Eq.trans ?_ (Cert.KernelIdeal.Val.W6_v7 m ρ c).symm)
  rw [y_same m m' c h0 h1 h2]
  rfl

include h0 h1 h2 in
/-- The largest magnitude in `y` agrees. -/
theorem r2 : Cert.ReferenceIdeal.Val.R m' c Cert.ReferenceIdeal.main_v8
    = Cert.KernelIdeal.Gen.W6 m ρ c (Proc.devRef .tc Cert.KernelIdeal.main_v9) := by
  refine (Cert.ReferenceIdeal.Val.R_v8 m' c).trans (Eq.trans ?_ (Cert.KernelIdeal.Val.W6_v9 m ρ c).symm)
  rw [y_same m m' c h0 h1 h2]
  rfl

include h0 in
/-- The codes of `x` agree. -/
theorem r3 : Cert.ReferenceIdeal.Val.R m' c Cert.ReferenceIdeal.main_v9
    = Cert.KernelIdeal.Gen.W6 m ρ c (Proc.devRef .tc Cert.KernelIdeal.main_v10) := by
  refine (Cert.ReferenceIdeal.Val.R_v9 m' c).trans (Eq.trans ?_ (Cert.KernelIdeal.Val.W6_v10 m ρ c).symm)
  rw [x_same m m' c h0]

/-- A column reshaped is its vector reshaped. -/
theorem col_vec (f : Fin 12288 → EReal)
    (h : (⟨2, ![12288, 1]⟩ : Shape).ShapeCasts ⟨2, ![3, 4096]⟩) (h' : (⟨1, ![12288]⟩ : Shape).ShapeCasts ⟨2, ![3, 4096]⟩) :
    shapeCast ⟨2, ![3, 4096]⟩ (fun j : (⟨2, ![12288, 1]⟩ : Shape).Idx => f (j 0)) h
      = shapeCast ⟨2, ![3, 4096]⟩ (fun j : (⟨1, ![12288]⟩ : Shape).Idx => f (j 0)) h' := by
  funext j
  obtain ⟨a, b, rfl⟩ := exists_ix2 (a := 3) (b := 4096) j
  have hr : a.val * 4096 + b.val < 12288 := by have := a.isLt; have := b.isLt; omega
  refine (shapeCast_apply _ h _ (ValueIdx.ix2 (⟨a.val * 4096 + b.val, hr⟩ : Fin 12288) (0 : Fin 1)) ?_).trans
    (shapeCast_apply (fun j : (⟨1, ![12288]⟩ : Shape).Idx => f (j 0)) h' _ (ValueIdx.ix1 (⟨a.val * 4096 + b.val, hr⟩ : Fin 12288)) ?_).symm
  · rw [Shape.rowMajor_val_two, Shape.rowMajor_val_two]
    show (a.val * 4096 + b.val) * 1 + 0 = a.val * 4096 + b.val
    omega
  · rw [Shape.rowMajor_val_one, Shape.rowMajor_val_two]
    rfl

include h0 in
/-- The scales of `x` agree. -/
theorem r4 : Cert.ReferenceIdeal.Val.R m' c Cert.ReferenceIdeal.main_v10
    = Cert.KernelIdeal.Gen.W6 m ρ c (Proc.devRef .tc Cert.KernelIdeal.main_v13) := by
  refine (Cert.ReferenceIdeal.Val.R_v10 m' c).trans (Eq.trans ?_ (Cert.KernelIdeal.Val.W6_v13 m ρ c).symm)
  rw [x_same m m' c h0]
  exact col_vec (xScale (Cert.KernelIdeal.Val.kx m c)) _ _

end Same

end Cert.Agree

namespace Cert.ReferenceIdeal.Val

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The reference's run: its five results and its unchanged arguments. -/
theorem run : θ_run defs (onTc (τ := τ) (main (F := Ideal))) ⟨m, fun _ => 0, ρ⟩ (fun r => ∀ c : Dev nD,
    r.2.mem ((c.tc : Thread nD τ).loc main_v6) = R m c main_v6
    ∧ r.2.mem ((c.tc : Thread nD τ).loc main_v7) = R m c main_v7
    ∧ r.2.mem ((c.tc : Thread nD τ).loc main_v8) = R m c main_v8
    ∧ r.2.mem ((c.tc : Thread nD τ).loc main_v9) = R m c main_v9
    ∧ r.2.mem ((c.tc : Thread nD τ).loc main_v10) = R m c main_v10
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c =>
    ⟨(h c).2 main_v6 (Pipeline.mem_restRefs_of main_v6 (by decide) (by decide)),
      (h c).2 main_v7 (Pipeline.mem_restRefs_of main_v7 (by decide) (by decide)),
      (h c).2 main_v8 (Pipeline.mem_restRefs_of main_v8 (by decide) (by decide)),
      (h c).2 main_v9 (Pipeline.mem_restRefs_of main_v9 (by decide) (by decide)),
      (h c).2 main_v10 (Pipeline.mem_restRefs_of main_v10 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c)))⟩) (run_main m ρ)

end Cert.ReferenceIdeal.Val

namespace Cert.Agree

open Idealize.ShloMosaic Idealize.ShloMosaic.TcCoe Idealize.SL.Sem
open Cert.KernelIdeal Cert.KernelIdeal.Gen

/-- From the same arguments both programs end with the same five results, whatever the arguments are. -/
theorem algebraic : Cert.algebraic_KernelIdeal_ReferenceIdeal (hKernelIdeal := Cert.KernelIdeal.Gen.facts)
    (hReferenceIdeal := Cert.ReferenceIdeal.Gen.facts) := by
  intro m g m' g' _ h
  refine ⟨fun c => W6 m g c (Proc.devRef .tc main_v5), fun c => W6 m g c (Proc.devRef .tc main_v7),
    fun c => W6 m g c (Proc.devRef .tc main_v9), fun c => W6 m g c (Proc.devRef .tc main_v10),
    fun c => W6 m g c (Proc.devRef .tc main_v13), ?_, ?_⟩
  · exact (θ_run defs _ _).mono (fun _ h c =>
      ⟨h c _ (mem_uc main_v5 (by decide)), h c _ (mem_uc main_v7 (by decide)), h c _ (mem_uc main_v9 (by decide)),
        h c _ (mem_uc main_v10 (by decide)), h c _ (mem_uc main_v13 (by decide)),
        (h c _ (mem_uc main_arg0 (by decide))).trans (W6_main_arg0 m g c),
        (h c _ (mem_uc main_arg1 (by decide))).trans (W6_main_arg1 m g c),
        (h c _ (mem_uc main_arg2 (by decide))).trans (W6_main_arg2 m g c)⟩) (run m g)
  · exact (θ_run Cert.ReferenceIdeal.defs _ _).mono (fun _ hr c =>
      have ⟨a0, a1, a2⟩ := h c
      have ⟨e0, e1, e2, e3, e4, es⟩ := hr c
      ⟨e0.trans (r0 m g m' c a0 a1 a2), e1.trans (r1 m g m' c a0 a1 a2), e2.trans (r2 m g m' c a0 a1 a2),
        e3.trans (r3 m g m' c a0), e4.trans (r4 m g m' c a0), es⟩) (Cert.ReferenceIdeal.Val.run m' g')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three programs run to the end leaving their arguments as they were, and the kernel and the reference, from the same
    arguments, end with the same five results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Agree.algebraic⟩

end Cert.Proof

end
